-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "rope_rate" .f32 0xBD935D8E#32 ((-((Real.log 10000) * (1 / 128)) : ℝ) : EReal)
  ∧ IdealRules.named_const.Statement Cert.KernelIdeal.κ "score_scale" .bf16 0x3DB5#16 ((11863283 / 134217728 : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v86) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x1024x1024 .bf16) (main_arg1 : FVec F S1024x1024 .bf16) (main_arg2 : FVec F S1024x1024 .bf16) (main_arg3 : FVec F S1024x1024 .bf16) (main_arg4 : FVec F S1024x1024 .bf16) : IVec S_ 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_c : IVec S_ 1 := constantI S_ 1 1#1
  let main_v4 : IVec S_ 1 := (fun x v => Host.reduce IntOp.andi x v reducesTo_S1x1024x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1024x1024 .f32 := (extf .f32 · bitsLt_bf16_f32) main_arg2
  let main_v12 : FVec F S1024x1024 .f32 := Host.absf main_v11
  let main_cst_2 : FVec F S_ .f32 := constant S_ .f32 0x7F800000#32
  let main_v13 : FVec F S1024x1024 .f32 := broadcastInDim S1024x1024 ![] bcast_S_S1024x1024 main_cst_2
  let main_v14 : IVec S1024x1024 1 := cmpf .olt main_v12 main_v13
  let main_c_3 : IVec S_ 1 := constantI S_ 1 1#1
  let main_v15 : IVec S_ 1 := (fun x v => Host.reduce IntOp.andi x v reducesTo_S1024x1024_S_d0_1 h_S_) main_v14 main_c_3
  let main_v16 : IVec S_ 1 := andi main_v10 main_v15
  main_v16
-- ==== Pre_finite_ReferenceIdeal.lean ====
abbrev S1x1024x1024 : Shape := ⟨3, ![1, 1024, 1024]⟩
abbrev S1024x4096 : Shape := ⟨2, ![1024, 4096]⟩
abbrev S4096x1024 : Shape := ⟨2, ![4096, 1024]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S1x1024x1024 .bf16) (main_arg1 : FVec F S1024x4096 .bf16) (main_arg2 : FVec F S1024x4096 .bf16) (main_arg3 : FVec F S1024x4096 .bf16) (main_arg4 : FVec F S4096x1024 .bf16) : IVec S_ 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_c : IVec S_ 1 := constantI S_ 1 1#1
  let main_v4 : IVec S_ 1 := (fun x v => Host.reduce IntOp.andi x v reducesTo_S1x1024x1024_S_d0_1_2 h_S_) main_v3 main_c
  let main_v5 : FVec F S1024x4096 .f32 := (extf .f32 · bitsLt_bf16_f32) main_arg1
  let main_v6 : FVec F S1024x4096 .f32 := Host.absf main_v5
  let main_cst_0 : FVec F S_ .f32 := constant S_ .f32 0x7F800000#32
  let main_v7 : FVec F S1024x4096 .f32 := broadcastInDim S1024x4096 ![] bcast_S_S1024x4096 main_cst_0
  let main_v8 : IVec S1024x4096 1 := cmpf .olt main_v6 main_v7
  let main_c_1 : IVec S_ 1 := constantI S_ 1 1#1
  let main_v9 : IVec S_ 1 := (fun x v => Host.reduce IntOp.andi x v reducesTo_S1024x4096_S_d0_1 h_S_) main_v8 main_c_1
  let main_v10 : IVec S_ 1 := andi main_v4 main_v9
  let main_v11 : FVec F S1024x4096 .f32 := (extf .f32 · bitsLt_bf16_f32) main_arg2
  let main_v12 : FVec F S1024x4096 .f32 := Host.absf main_v11
  let main_cst_2 : FVec F S_ .f32 := constant S_ .f32 0x7F800000#32
  let main_v13 : FVec F S1024x4096 .f32 := broadcastInDim S1024x4096 ![] bcast_S_S1024x4096 main_cst_2
  let main_v14 : IVec S1024x4096 1 := cmpf .olt main_v12 main_v13
  let main_c_3 : IVec S_ 1 := constantI S_ 1 1#1
  let main_v15 : IVec S_ 1 := (fun x v => Host.reduce IntOp.andi x v reducesTo_S1024x4096_S_d0_1 h_S_) main_v14 main_c_3
  let main_v16 : IVec S_ 1 := andi main_v10 main_v15
  main_v16
-- ==== Kernel.lean ====
abbrev S1x1024x1024 : Shape := ⟨3, ![1, 1024, 1024]⟩
abbrev S1024x1024 : Shape := ⟨2, ![1024, 1024]⟩
abbrev S1x3x256x1024 : Shape := ⟨4, ![1, 3, 256, 1024]⟩
abbrev S1x4x256x1024 : Shape := ⟨4, ![1, 4, 256, 1024]⟩
abbrev S1x3 : Shape := ⟨2, ![1, 3]⟩
abbrev S_ : Shape := ⟨0, ![]⟩
abbrev S1024x128 : Shape := ⟨2, ![1024, 128]⟩
abbrev S1024x1023 : Shape := ⟨2, ![1024, 1023]⟩
abbrev S1024x1 : Shape := ⟨2, ![1024, 1]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x1x256x1024 : Shape := ⟨4, ![1, 1, 256, 1024]⟩
abbrev S1x1 : Shape := ⟨2, ![1, 1]⟩
abbrev S1x256x1024 : Shape := ⟨3, ![1, 256, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1x1024x1024, .bf16⟩
  | .local _ .vmem, ⟨0, _⟩ => ⟨S1x1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024x1024, .bf16⟩
  | .local _ .vmem, ⟨6, _⟩ => ⟨S1024x1024, .bf16⟩
  | .local _ .vmem, ⟨7, _⟩ => ⟨S1x3x256x1024, .bf16⟩
  | .local _ .vmem, ⟨8, _⟩ => ⟨S1x3x256x1024, .bf16⟩
  | .local _ .vmem, ⟨9, _⟩ => ⟨S1x4x256x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => true
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 2 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v37 : BitVec 32 := Scalar.muli v13 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v39 : BitVec 32 := Scalar.muli v24 c1_i32_23
  let v40 : BitVec 32 := Scalar.addi c0_i32_24 v39
  v40.toNat
def k0_off1 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v164 : BitVec 32 := Scalar.muli v2 c256_i32
  let v165 : BitVec 32 := Scalar.addi c0_i32_65 v164
  let v166 : Index := Scalar.indexCast v165
  let c0_66 : Index := 0#32
  ![v166.toNat, 0]
def k0_dev3 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_113 : BitVec 32 := 1#32
  let v294 : BitVec 32 := Scalar.muli v24 c1_i32_113
  let v295 : BitVec 32 := Scalar.addi c0_i32_114 v294
  v295.toNat
def k0_off2 (d0 : Dev nD) (c1_i32_119 : BitVec 32) : Fin 2 → Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v304 : BitVec 32 := Scalar.subi v2 c1_i32_119
  let c4_i32_120 : BitVec 32 := 4#32
  let c0_i32_121 : BitVec 32 := 0#32
  let v305 : BitVec 1 := Scalar.cmpi .eq c4_i32_120 c0_i32_121
  let c1_i32_122 : BitVec 32 := 1#32
  let v306 : BitVec 32 := Scalar.select v305 c1_i32_122 c4_i32_120
  let v307 : BitVec 32 := Scalar.remsi v304 v306
  let c0_i32_124 : BitVec 32 := 0#32
  let v309 : BitVec 1 := Scalar.cmpi .slt v307 c0_i32_124
  let c0_i32_125 : BitVec 32 := 0#32
  let v310 : BitVec 1 := Scalar.cmpi .slt v306 c0_i32_125
  let v311 : BitVec 1 := Scalar.xori v309 v310
  let c0_i32_123 : BitVec 32 := 0#32
  let v308 : BitVec 1 := Scalar.cmpi .ne v307 c0_i32_123
  let v312 : BitVec 1 := Scalar.andi v311 v308
  let v313 : BitVec 32 := Scalar.addi v307 v306
  let v314 : BitVec 32 := Scalar.select v312 v313 v307
  let c256_i32_126 : BitVec 32 := 256#32
  let v315 : BitVec 32 := Scalar.muli v314 c256_i32_126
  let v316 : BitVec 32 := Scalar.addi c0_i32_127 v315
  let v317 : Index := Scalar.indexCast v316
  let c0_128 : Index := 0#32
  ![v317.toNat, 0]
def k0_dev4 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_191 : BitVec 32 := 1#32
  let v456 : BitVec 32 := Scalar.muli v24 c1_i32_191
  let v457 : BitVec 32 := Scalar.addi c0_i32_192 v456
  v457.toNat
def k0_dev5 (d0 : Dev nD) : Nat :=
  let c0_i32_270 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_269 : BitVec 32 := 1#32
  let v618 : BitVec 32 := Scalar.muli v24 c1_i32_269
  let v619 : BitVec 32 := Scalar.addi c0_i32_270 v618
  v619.toNat
def k0_off3 (d0 : Dev nD) (c1_i32_339 : BitVec 32) : Fin 3 → Nat :=
  let c0_348 : Index := 0#32
  let c0_i32_347 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v780 : BitVec 32 := Scalar.addi v2 c1_i32_339
  let c4_i32_340 : BitVec 32 := 4#32
  let c0_i32_341 : BitVec 32 := 0#32
  let v781 : BitVec 1 := Scalar.cmpi .eq c4_i32_340 c0_i32_341
  let c1_i32_342 : BitVec 32 := 1#32
  let v782 : BitVec 32 := Scalar.select v781 c1_i32_342 c4_i32_340
  let v783 : BitVec 32 := Scalar.remsi v780 v782
  let c0_i32_344 : BitVec 32 := 0#32
  let v785 : BitVec 1 := Scalar.cmpi .slt v783 c0_i32_344
  let c0_i32_345 : BitVec 32 := 0#32
  let v786 : BitVec 1 := Scalar.cmpi .slt v782 c0_i32_345
  let v787 : BitVec 1 := Scalar.xori v785 v786
  let c0_i32_343 : BitVec 32 := 0#32
  let v784 : BitVec 1 := Scalar.cmpi .ne v783 c0_i32_343
  let v788 : BitVec 1 := Scalar.andi v787 v784
  let v789 : BitVec 32 := Scalar.addi v783 v782
  let v790 : BitVec 32 := Scalar.select v788 v789 v783
  let c256_i32_346 : BitVec 32 := 256#32
  let v791 : BitVec 32 := Scalar.muli v790 c256_i32_346
  let v792 : BitVec 32 := Scalar.addi c0_i32_347 v791
  let v793 : Index := Scalar.indexCast v792
  let c0_349 : Index := 0#32
  ![0, v793.toNat, 0]
def k0_dev6 (d0 : Dev nD) : Nat :=
  let c0_i32_359 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_358 : BitVec 32 := 1#32
  let v797 : BitVec 32 := Scalar.muli v13 c1_i32_358
  let v798 : BitVec 32 := Scalar.addi c0_i32_359 v797
  v798.toNat
def k0_dev7 (d0 : Dev nD) : Nat :=
  let c0_i32_373 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_372 : BitVec 32 := 1#32
  let v807 : BitVec 32 := Scalar.muli v24 c1_i32_372
  let v808 : BitVec 32 := Scalar.addi c0_i32_373 v807
  v808.toNat
def k0_dev8 (d0 : Dev nD) : Nat :=
  let c0_i32_387 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_386 : BitVec 32 := 1#32
  let v817 : BitVec 32 := Scalar.muli v35 c1_i32_386
  let v818 : BitVec 32 := Scalar.addi c0_i32_387 v817
  v818.toNat
def k0_off4 (d0 : Dev nD) : Fin 3 → Nat :=
  let c0_441 : Index := 0#32
  let c0_i32_440 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_439 : BitVec 32 := 256#32
  let v864 : BitVec 32 := Scalar.muli v2 c256_i32_439
  let v865 : BitVec 32 := Scalar.addi c0_i32_440 v864
  let v866 : Index := Scalar.indexCast v865
  let c0_442 : Index := 0#32
  ![0, v866.toNat, 0]
def k0_dev9 (d0 : Dev nD) : Nat :=
  let c0_i32_544_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_543_r0 : BitVec 32 := 1#32
  let v923_r0 : BitVec 32 := Scalar.muli v13 c1_i32_543_r0
  let v924_r0 : BitVec 32 := Scalar.addi c0_i32_544_r0 v923_r0
  v924_r0.toNat
def k0_dev10 (d0 : Dev nD) : Nat :=
  let c0_i32_547_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_546_r0 : BitVec 32 := 1#32
  let v925_r0 : BitVec 32 := Scalar.muli v24 c1_i32_546_r0
  let v926_r0 : BitVec 32 := Scalar.addi c0_i32_547_r0 v925_r0
  v926_r0.toNat
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "rope_rate" => some ((-((Real.log 10000) * (1 / 128)) : ℝ) : EReal)
  | "score_scale" => some ((11863283 / 134217728 : ℝ) : EReal)
  | _ => none
-- ==== ReferenceIdeal.lean ====
abbrev S1x1024x1024 : Shape := ⟨3, ![1, 1024, 1024]⟩
abbrev S1024x4096 : Shape := ⟨2, ![1024, 4096]⟩
abbrev S4096x1024 : Shape := ⟨2, ![4096, 1024]⟩
abbrev S64 : Shape := ⟨1, ![64]⟩
abbrev S_ : Shape := ⟨0, ![]⟩
abbrev S1024 : Shape := ⟨1, ![1024]⟩
abbrev S1024x1 : Shape := ⟨2, ![1024, 1]⟩
abbrev S1x64 : Shape := ⟨2, ![1, 64]⟩
abbrev S1024x64 : Shape := ⟨2, ![1024, 64]⟩
abbrev S1024x64x2 : Shape := ⟨3, ![1024, 64, 2]⟩
abbrev S1024x128 : Shape := ⟨2, ![1024, 128]⟩
abbrev S1x1024x4096 : Shape := ⟨3, ![1, 1024, 4096]⟩
abbrev S1x1024x32x128 : Shape := ⟨4, ![1, 1024, 32, 128]⟩
abbrev S1x1024x32x64x2 : Shape := ⟨5, ![1, 1024, 32, 64, 2]⟩
abbrev S1x1024x32x64x1 : Shape := ⟨5, ![1, 1024, 32, 64, 1]⟩
abbrev S1x1024x32x64 : Shape := ⟨4, ![1, 1024, 32, 64]⟩
abbrev S1x1024x1x128 : Shape := ⟨4, ![1, 1024, 1, 128]⟩
abbrev S1x32x1024x1024 : Shape := ⟨4, ![1, 32, 1024, 1024]⟩
abbrev S1x32x1024 : Shape := ⟨3, ![1, 32, 1024]⟩
abbrev S1x32x1024x1 : Shape := ⟨4, ![1, 32, 1024, 1]⟩
abbrev S1x32x128x1024 : Shape := ⟨4, ![1, 32, 128, 1024]⟩

abbrev nBuf : Space → Nat
  | .hbm => 100
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S1024x4096, .bf16⟩
  | .hbm, ⟨2, _⟩ => ⟨S1024x4096, .bf16⟩
  | .hbm, ⟨3, _⟩ => ⟨S1024x4096, .bf16⟩
  | .hbm, ⟨4, _⟩ => ⟨S4096x1024, .bf16⟩
  | .hbm, ⟨5, _⟩ => ⟨S1x1024x1024, .f32⟩
  | .hbm, ⟨6, _⟩ => ⟨S1024x4096, .f32⟩
  | .hbm, ⟨7, _⟩ => ⟨S1024x4096, .f32⟩
  | .hbm, ⟨8, _⟩ => ⟨S1024x4096, .f32⟩
  | .hbm, ⟨9, _⟩ => ⟨S4096x1024, .f32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S1024, .i32⟩
  | .hbm, ⟨28, _⟩ => ⟨S1024x1, .i32⟩
  | .hbm, ⟨29, _⟩ => ⟨S1x64, .f32⟩
  | .hbm, ⟨30, _⟩ => ⟨S1024x1, .f32⟩
  | .hbm, ⟨31, _⟩ => ⟨S1024x64, .f32⟩
  | .hbm, ⟨32, _⟩ => ⟨S1024x64, .f32⟩
  | .hbm, ⟨33, _⟩ => ⟨S1024x64, .f32⟩
  | .hbm, ⟨34, _⟩ => ⟨S1024x64, .f32⟩
  | .hbm, ⟨35, _⟩ => ⟨S1024x64x2, .f32⟩
  | .hbm, ⟨36, _⟩ => ⟨S1024x128, .f32⟩
  | .hbm, ⟨37, _⟩ => ⟨S1024x64, .f32⟩
  | .hbm, ⟨38, _⟩ => ⟨S1024x64x2, .f32⟩
  | .hbm, ⟨39, _⟩ => ⟨S1024x128, .f32⟩
  | .hbm, ⟨40, _⟩ => ⟨S1x1024x4096, .f32⟩
  | .hbm, ⟨41, _⟩ => ⟨S1x1024x32x128, .f32⟩
  | .hbm, ⟨42, _⟩ => ⟨S1x1024x32x64x2, .f32⟩
  | .hbm, ⟨43, _⟩ => ⟨S1x1024x32x64x1, .f32⟩
  | .hbm, ⟨44, _⟩ => ⟨S1x1024x32x64, .f32⟩
  | .hbm, ⟨45, _⟩ => ⟨S1x1024x32x64, .f32⟩
  | .hbm, ⟨46, _⟩ => ⟨S1x1024x32x64x1, .f32⟩
  | .hbm, ⟨47, _⟩ => ⟨S1x1024x32x64, .f32⟩
  | .hbm, ⟨48, _⟩ => ⟨S1x1024x32x64x1, .f32⟩
  | .hbm, ⟨49, _⟩ => ⟨S1x1024x32x64x1, .f32⟩
  | .hbm, ⟨50, _⟩ => ⟨S1x1024x32x64x2, .f32⟩
  | .hbm, ⟨51, _⟩ => ⟨S1x1024x32x128, .f32⟩
  | .hbm, ⟨52, _⟩ => ⟨S1x1024x1x128, .f32⟩
  | .hbm, ⟨53, _⟩ => ⟨S1x1024x32x128, .f32⟩
  | .hbm, ⟨54, _⟩ => ⟨S1x1024x32x128, .f32⟩
  | .hbm, ⟨55, _⟩ => ⟨S1x1024x1x128, .f32⟩
  | .hbm, ⟨56, _⟩ => ⟨S1x1024x32x128, .f32⟩
  | .hbm, ⟨57, _⟩ => ⟨S1x1024x32x128, .f32⟩
  | .hbm, ⟨58, _⟩ => ⟨S1x1024x32x128, .f32⟩
  | .hbm, ⟨59, _⟩ => ⟨S1x1024x4096, .f32⟩
  | .hbm, ⟨60, _⟩ => ⟨S1x1024x32x128, .f32⟩
  | .hbm, ⟨61, _⟩ => ⟨S1x1024x32x64x2, .f32⟩
  | .hbm, ⟨62, _⟩ => ⟨S1x1024x32x64x1, .f32⟩
  | .hbm, ⟨63, _⟩ => ⟨S1x1024x32x64, .f32⟩
  | .hbm, ⟨64, _⟩ => ⟨S1x1024x32x64, .f32⟩
  | .hbm, ⟨65, _⟩ => ⟨S1x1024x32x64x1, .f32⟩
  | .hbm, ⟨66, _⟩ => ⟨S1x1024x32x64, .f32⟩
  | .hbm, ⟨67, _⟩ => ⟨S1x1024x32x64x1, .f32⟩
  | .hbm, ⟨68, _⟩ => ⟨S1x1024x32x64x1, .f32⟩
  | .hbm, ⟨69, _⟩ => ⟨S1x1024x32x64x2, .f32⟩
  | .hbm, ⟨70, _⟩ => ⟨S1x1024x32x128, .f32⟩
  | .hbm, ⟨71, _⟩ => ⟨S1x1024x1x128, .f32⟩
  | .hbm, ⟨72, _⟩ => ⟨S1x1024x32x128, .f32⟩
  | .hbm, ⟨73, _⟩ => ⟨S1x1024x32x128, .f32⟩
  | .hbm, ⟨74, _⟩ => ⟨S1x1024x1x128, .f32⟩
  | .hbm, ⟨75, _⟩ => ⟨S1x1024x32x128, .f32⟩
  | .hbm, ⟨76, _⟩ => ⟨S1x1024x32x128, .f32⟩
  | .hbm, ⟨77, _⟩ => ⟨S1x1024x32x128, .f32⟩
  | .hbm, ⟨78, _⟩ => ⟨S1x1024x4096, .f32⟩
  | .hbm, ⟨79, _⟩ => ⟨S1x1024x32x128, .f32⟩
  | .hbm, ⟨80, _⟩ => ⟨S1x32x1024x1024, .f32⟩
  | .hbm, ⟨81, _⟩ => ⟨S_, .f32⟩
  | .hbm, ⟨82, _⟩ => ⟨S1x32x1024x1024, .f32⟩
  | .hbm, ⟨83, _⟩ => ⟨S1x32x1024x1024, .f32⟩
  | .hbm, ⟨84, _⟩ => ⟨S_, .f32⟩
  | .hbm, ⟨85, _⟩ => ⟨S1x32x1024, .f32⟩
  | .hbm, ⟨86, _⟩ => ⟨S1x32x1024x1, .f32⟩
  | .hbm, ⟨87, _⟩ => ⟨S1x32x1024x1024, .f32⟩
  | .hbm, ⟨88, _⟩ => ⟨S1x32x1024x1024, .f32⟩
  | .hbm, ⟨89, _⟩ => ⟨S1x32x1024x1024, .f32⟩
  | .hbm, ⟨90, _⟩ => ⟨S_, .f32⟩
  | .hbm, ⟨91, _⟩ => ⟨S1x32x1024, .f32⟩
  | .hbm, ⟨92, _⟩ => ⟨S1x32x1024x1, .f32⟩
  | .hbm, ⟨93, _⟩ => ⟨S1x32x1024x1024, .f32⟩
  | .hbm, ⟨94, _⟩ => ⟨S1x32x1024x1024, .f32⟩
  | .hbm, ⟨95, _⟩ => ⟨S1x32x128x1024, .f32⟩
  | .hbm, ⟨96, _⟩ => ⟨S1x1024x32x128, .f32⟩
  | .hbm, ⟨97, _⟩ => ⟨S1x1024x4096, .f32⟩
  | .hbm, ⟨98, _⟩ => ⟨S1x1024x1024, .f32⟩
  | .hbm, ⟨99, _⟩ => ⟨S1x1024x1024, .bf16⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_3 : Ref sig .tc := ⟨.hbm, 81, rfl⟩
abbrev main_v71 : Ref sig .tc := ⟨.hbm, 82, rfl⟩
abbrev main_v72 : Ref sig .tc := ⟨.hbm, 83, rfl⟩
abbrev main_cst_4 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_5 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩

abbrev nD : Nat := 1
abbrev τ : Topo := Topo.v7x

variable {F : FTy → Type} [FloatOps F]
-- ==== Proof.KI.Contents.lean ====
/-
# What each device computes, as functions of the devices' arguments

The kernel's vectors named at symbolic devices: the rotated queries and keys, the values and the output weights of a
device; the four partial results it adds into the chain of the reduce-scatter (`S0`, `S1`, `S2`, `V`); and the whole
result (`OUT`), which is the same on every device.
-/
module

public import proofs.«01_k».proof.Proof.Gen.KernelIdeal
public import proofs.«01_k».proof.Proof.Gen.KernelIdeal.Skeleton

@[expose] public section

noncomputable section

namespace Cert.KernelIdeal.Run

open Cert.KernelIdeal Cert.KernelIdeal.Gen
open Idealize.ShloMosaic Idealize.ShloMosaic.TcCoe Idealize.SL.Sem

variable {F : FTy → Type} [FloatOps F] [Named F]

/-! ## The ring of devices -/

set_option backward.proofsInPublic true in
/-- The device after `c`. -/
def rt (c : Dev nD) : Dev nD := ⟨(c.val + 1) % 4, Nat.mod_lt _ (by decide)⟩
set_option backward.proofsInPublic true in
/-- The device before `c`. -/
def lf (c : Dev nD) : Dev nD := ⟨(c.val + 3) % 4, Nat.mod_lt _ (by decide)⟩
set_option backward.proofsInPublic true in
/-- The device across the ring from `c`. -/
def op (c : Dev nD) : Dev nD := ⟨(c.val + 2) % 4, Nat.mod_lt _ (by decide)⟩

theorem lf_rt (c : Dev nD) : lf (rt c) = c := by revert c; decide
theorem rt_lf (c : Dev nD) : rt (lf c) = c := by revert c; decide
theorem op_op (c : Dev nD) : op (op c) = c := by revert c; decide
theorem lf_lf (c : Dev nD) : lf (lf c) = op c := by revert c; decide
theorem rt_rt (c : Dev nD) : rt (rt c) = op c := by revert c; decide
theorem op_lf (c : Dev nD) : op (lf c) = rt c := by revert c; decide
theorem op_rt (c : Dev nD) : op (rt c) = lf c := by revert c; decide

/-! ## One device's projections -/

abbrev VX : Type := FVec F S1x1024x1024 .bf16
abbrev VW : Type := FVec F S1024x1024 .bf16
abbrev VB : Type := FVec F S256x1024 .bf16
abbrev VS : Type := FVec F S1x1x256x1024 .bf16

/-- The cosines and the sines of the rotary angles, over all columns. -/
def cosV : FVec F S1024x1024 .bf16 :=
  k0_pay10 (F := F) k0_pay6 (iota .tc S1024x128 32 [1] iota_S1024x128_d1_w32) 2#32 k0_pay7 k0_pay8 (Scalar.cmpi .sgt 2#32 0#32)
def sinV : FVec F S1024x1024 .bf16 :=
  k0_pay11 (F := F) k0_pay6 (iota .tc S1024x128 32 [1] iota_S1024x128_d1_w32) 2#32 k0_pay7 k0_pay8 (Scalar.cmpi .sgt 2#32 0#32)

/-- The rotated and scaled queries, the rotated keys, the values, the output weights. -/
def qV (x : FVec F S1x1024x1024 .bf16) (wq : FVec F S1024x1024 .bf16) : FVec F S1024x1024 .bf16 :=
  k0_pay15 (k0_pay3 x wq) cosV sinV k0_pay12 (k0_pay13 (k0_pay3 x wq)) (k0_pay14 (k0_pay3 x wq))
def kV (x : FVec F S1x1024x1024 .bf16) (wk : FVec F S1024x1024 .bf16) : FVec F S1024x1024 .bf16 :=
  k0_pay16 (k0_pay4 x wk) cosV sinV
def vV (x : FVec F S1x1024x1024 .bf16) (wv : FVec F S1024x1024 .bf16) : FVec F S1024x1024 .bf16 := k0_pay5 x wv
def oV (wo : FVec F S1024x1024 .bf16) : FVec F S1024x1024 .bf16 := k0_pay2 wo

/-! ## The four blocks of attention rows, each added to what arrived -/

/-- The first block's partial result (nothing has arrived). -/
def blk0 (v44 v56 v163 : FVec F S1024x1024 .bf16) (v167 : FVec F S256x1024 .bf16) : FVec F S1x1x256x1024 .bf16 :=
  k0_pay26 v44 v56 v163 v167 (k0_pay17 v56 v163 v167) (k0_pay18 v56 v163 v167) (k0_pay22 (k0_pay20 v163 v167) (k0_pay21 v56 v163 v167))
    (k0_pay23 v56 v163 v167) (k0_pay24 v56 v163 v167) (k0_pay25 v56 v163 v167)
/-- The second's, added to what arrived. -/
def blk1 (v44 v56 v163 : FVec F S1024x1024 .bf16) (v318 : FVec F S256x1024 .bf16) (v450 : FVec F S1x1x256x1024 .bf16) : FVec F S1x1x256x1024 .bf16 :=
  k0_pay39 v44 v56 (k0_pay30 (k0_pay28 v56 v163 v318) (k0_pay29 v163 v318)) (k0_pay31 v56 v163 v318) (k0_pay32 v56 v163 v318) (k0_pay33 v56 v163 v318)
    (k0_pay35 v56 v163 (k0_pay34 v318)) (k0_pay36 v56 v163 v318) (k0_pay37 v56 v163 v318) (k0_pay38 v163 v318) v450
/-- The third's. -/
def blk2 (v44 v56 v163 : FVec F S1024x1024 .bf16) (v480 : FVec F S256x1024 .bf16) (v612 : FVec F S1x1x256x1024 .bf16) : FVec F S1x1x256x1024 .bf16 :=
  k0_pay52 v44 v56 v163 v480 (k0_pay42 v56 (k0_pay40 v163 v480) (k0_pay41 v163 v480)) (k0_pay43 v56 v163 v480) (k0_pay44 v56 v163 v480)
    (k0_pay48 (k0_pay46 v163 v480) (k0_pay47 v56 v163 v480)) (k0_pay49 v56 v163 v480) (k0_pay50 v56 v163 v480) (k0_pay51 v56 v163 v480) v612
/-- The fourth's: the finished rows. -/
def blk3 (v44 v56 v163 : FVec F S1024x1024 .bf16) (v642 : FVec F S256x1024 .bf16) (v774 : FVec F S1x1x256x1024 .bf16) : FVec F S256x1024 .bf16 :=
  k0_pay67 v44 v56 v163 v642 (k0_pay55 v56 (k0_pay53 v163 v642) (k0_pay54 v163 v642)) (k0_pay56 v56 v163 v642) (k0_pay57 v56 v163 v642)
    (k0_pay61 v56 (k0_pay58 v163 v642) (k0_pay59 v163 v642) k0_pay60) (k0_pay62 v56 v163 v642) (k0_pay63 v56 v163 v642) (k0_pay64 v163 v642) (k0_pay65 v163 v642)
    (k0_pay66 v56) (constant S256x128 .f32 0x00000000#32) v774

/-! ## The chain over the devices -/

variable (m : (ℓ : Loc nD τ sig) → Buf (Elt F) ℓ)

/-- Device `c`'s arguments. -/
def a0 (c : Dev nD) : (cc0_stg0_0 : Ref sig .tc).ty.Contents (Elt F) := m ((c : Thread nD τ).loc main_arg0)
def a1 (c : Dev nD) : (cc0_stg1_0 : Ref sig .tc).ty.Contents (Elt F) := m ((c : Thread nD τ).loc main_arg1)
def a2 (c : Dev nD) : (cc0_stg2_0 : Ref sig .tc).ty.Contents (Elt F) := m ((c : Thread nD τ).loc main_arg2)
def a3 (c : Dev nD) : (cc0_stg3_0 : Ref sig .tc).ty.Contents (Elt F) := m ((c : Thread nD τ).loc main_arg3)
def a4 (c : Dev nD) : (cc0_stg4_0 : Ref sig .tc).ty.Contents (Elt F) := m ((c : Thread nD τ).loc main_arg4)

def Qv (c : Dev nD) : FVec F S1024x1024 .bf16 := qV (a0 m c) (a1 m c)
def Kv (c : Dev nD) : FVec F S1024x1024 .bf16 := kV (a0 m c) (a2 m c)
def Vv (c : Dev nD) : FVec F S1024x1024 .bf16 := vV (a0 m c) (a3 m c)
def Ov (c : Dev nD) : FVec F S1024x1024 .bf16 := oV (a4 m c)

/-- The buffer of queries. -/
abbrev mQ : Memref sig .tc .vmem S1024x1024 .bf16 := Memref.whole cc0_scratch0

/-- The rows of queries of each of a device's four blocks, in the order it takes them. -/
def q0 (c : Dev nD) : FVec F S256x1024 .bf16 :=
  mQ.view.readAt (Elt F) (Rect.unit (s := S1024x1024) (k0_off1 c) S256x1024.size (k0_off1_inb c)).toLoadRect (Qv m c)
def q1 (c : Dev nD) : FVec F S256x1024 .bf16 :=
  mQ.view.readAt (Elt F) (Rect.unit (s := S1024x1024) (k0_off2 c 1#32) S256x1024.size (k0_off2_inb c 0)).toLoadRect (Qv m c)
def q2 (c : Dev nD) : FVec F S256x1024 .bf16 :=
  mQ.view.readAt (Elt F) (Rect.unit (s := S1024x1024) (k0_off2 c 2#32) S256x1024.size (k0_off2_inb c 1)).toLoadRect (Qv m c)
def q3 (c : Dev nD) : FVec F S256x1024 .bf16 :=
  mQ.view.readAt (Elt F) (Rect.unit (s := S1024x1024) (k0_off2 c 3#32) S256x1024.size (k0_off2_inb c 2)).toLoadRect (Qv m c)

/-- What device `c` sends on in the first, second and third step of the reduce-scatter. -/
def S0 (c : Dev nD) : FVec F S1x1x256x1024 .bf16 := blk0 (Ov m c) (Vv m c) (Kv m c) (q0 m c)
def S1 (c : Dev nD) : FVec F S1x1x256x1024 .bf16 := blk1 (Ov m c) (Vv m c) (Kv m c) (q1 m c) (S0 m (lf c))
def S2 (c : Dev nD) : FVec F S1x1x256x1024 .bf16 := blk2 (Ov m c) (Vv m c) (Kv m c) (q2 m c) (S1 m (lf c))
/-- The finished rows of device `c`'s own chunk, and as they are sent around. -/
def V (c : Dev nD) : FVec F S256x1024 .bf16 := blk3 (Ov m c) (Vv m c) (Kv m c) (q3 m c) (S2 m (lf c))
def A (c : Dev nD) : FVec F S1x1x256x1024 .bf16 := k0_pay68 (V m c)

end Cert.KernelIdeal.Run

end
-- ==== Proof.KI.Protocol.lean ====
/-
# The kernel's semaphores and what each hands over

Fourteen semaphore cells per device: the barrier, the exit semaphore, and the send and receive semaphores of the three
steps of the reduce-scatter and of the three transfers of the all-gather. Each runs one round. The barrier's two
duties hand over the slots the neighbours' transfers land in; a receive cell hands over its slot holding what was
sent; a send cell gives the source back.
-/
module

public import proofs.«01_k».proof.Proof.KI.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- No loop needs a variant. -/
abbrev 𝒱₀ : Variants := Variants.none

/-! ## The slots -/

/-- Slot `j` of the buffer of sent partial results, of the buffer of received ones, of the gather buffer. -/
abbrev sS0 : Memref sig .tc .vmem S1x1x256x1024 .bf16 := (Memref.whole cc0_scratch1).slice (Rect.unit (s := S1x3x256x1024) ![0, 0, 0, 0] S1x1x256x1024.size inb_S1x3x256x1024_S1x1x256x1024_0_0_0_0) (fun _ => rfl)
abbrev sS1 : Memref sig .tc .vmem S1x1x256x1024 .bf16 := (Memref.whole cc0_scratch1).slice (Rect.unit (s := S1x3x256x1024) ![0, 1, 0, 0] S1x1x256x1024.size inb_S1x3x256x1024_S1x1x256x1024_0_1_0_0) (fun _ => rfl)
abbrev sS2 : Memref sig .tc .vmem S1x1x256x1024 .bf16 := (Memref.whole cc0_scratch1).slice (Rect.unit (s := S1x3x256x1024) ![0, 2, 0, 0] S1x1x256x1024.size inb_S1x3x256x1024_S1x1x256x1024_0_2_0_0) (fun _ => rfl)
abbrev sR0 : Memref sig .tc .vmem S1x1x256x1024 .bf16 := (Memref.whole cc0_scratch2).slice (Rect.unit (s := S1x3x256x1024) ![0, 0, 0, 0] S1x1x256x1024.size inb_S1x3x256x1024_S1x1x256x1024_0_0_0_0) (fun _ => rfl)
abbrev sR1 : Memref sig .tc .vmem S1x1x256x1024 .bf16 := (Memref.whole cc0_scratch2).slice (Rect.unit (s := S1x3x256x1024) ![0, 1, 0, 0] S1x1x256x1024.size inb_S1x3x256x1024_S1x1x256x1024_0_1_0_0) (fun _ => rfl)
abbrev sR2 : Memref sig .tc .vmem S1x1x256x1024 .bf16 := (Memref.whole cc0_scratch2).slice (Rect.unit (s := S1x3x256x1024) ![0, 2, 0, 0] S1x1x256x1024.size inb_S1x3x256x1024_S1x1x256x1024_0_2_0_0) (fun _ => rfl)
abbrev sA0 : Memref sig .tc .vmem S1x1x256x1024 .bf16 := (Memref.whole cc0_scratch3).slice (Rect.unit (s := S1x4x256x1024) ![0, 0, 0, 0] S1x1x256x1024.size inb_S1x4x256x1024_S1x1x256x1024_0_0_0_0) (fun _ => rfl)
abbrev sA1 : Memref sig .tc .vmem S1x1x256x1024 .bf16 := (Memref.whole cc0_scratch3).slice (Rect.unit (s := S1x4x256x1024) ![0, 1, 0, 0] S1x1x256x1024.size inb_S1x4x256x1024_S1x1x256x1024_0_1_0_0) (fun _ => rfl)
abbrev sA2 : Memref sig .tc .vmem S1x1x256x1024 .bf16 := (Memref.whole cc0_scratch3).slice (Rect.unit (s := S1x4x256x1024) ![0, 2, 0, 0] S1x1x256x1024.size inb_S1x4x256x1024_S1x1x256x1024_0_2_0_0) (fun _ => rfl)
abbrev sA3 : Memref sig .tc .vmem S1x1x256x1024 .bf16 := (Memref.whole cc0_scratch3).slice (Rect.unit (s := S1x4x256x1024) ![0, 3, 0, 0] S1x1x256x1024.size inb_S1x4x256x1024_S1x1x256x1024_0_3_0_0) (fun _ => rfl)

/-- A slot of device `c`, held at share `q` and holding `X`. -/
def at_ (c : Dev nD) (M : Memref sig .tc .vmem S1x1x256x1024 .bf16) (q : PosShare TreeShare) (X : FVec F S1x1x256x1024 .bf16) : sProp 𝕄 :=
  owns (c : Thread nD τ) M q X
/-- A slot of device `c`, held outright, whatever it holds. -/
def any (c : Dev nD) (M : Memref sig .tc .vmem S1x1x256x1024 .bf16) : sProp 𝕄 := iprop(∃ X, at_ c M fullShare X)

instance at_storable (c : Dev nD) (M q X) : BI.Storable (upEmb : UEmb _ 𝕄) (at_ (F := F) c M q X) := by unfold at_; infer_instance
instance any_storable (c : Dev nD) (M) : BI.Storable (upEmb : UEmb _ 𝕄) (any (F := F) c M) := by unfold any; infer_instance

/-- The three shares the sender of the gather keeps in flight. -/
abbrev sh0 : PosShare TreeShare := fullShare.left
abbrev sh1 : PosShare TreeShare := fullShare.right.left
abbrev sh2 : PosShare TreeShare := fullShare.right.right

/-! ## The cells -/

abbrev barS : Sem sig := (SemArray.scalar (sig.barrier 0 rfl) : Sems sig S_).sem
abbrev exS : Sem sig := (cc0_scoped0 : Sems sig S_).sem

/-- The kernel's own semaphores: the exit semaphore and the transfers' twelve. -/
abbrev csem : Fin 14 → SemLoc sig := fun
  | 0 => .reg barS | 1 => .reg exS
  | 2 => .dma (6 : DmaSem sig) | 3 => .dma (7 : DmaSem sig) | 4 => .dma (8 : DmaSem sig)
  | 5 => .dma (9 : DmaSem sig) | 6 => .dma (10 : DmaSem sig) | 7 => .dma (11 : DmaSem sig)
  | 8 => .dma (12 : DmaSem sig) | 9 => .dma (13 : DmaSem sig) | 10 => .dma (14 : DmaSem sig)
  | 11 => .dma (15 : DmaSem sig) | 12 => .dma (16 : DmaSem sig) | 13 => .dma (17 : DmaSem sig)
  | ⟨_ + 14, h⟩ => absurd h (Nat.not_lt.2 (Nat.le_add_left _ _))
abbrev osem : Fin 13 → SemLoc sig := fun k => csem k.succ
abbrev kcell (c : Dev nD) (k : Fin 14) : GSem nD τ sig := ((c : Thread nD τ), csem k)

/-- Which cell a semaphore is. -/
def tag (s : SemLoc sig) : Option (Fin 14) := (List.finRange 14).find? fun k => decide (csem k = s)
theorem tag_csem (k : Fin 14) : tag (csem k) = some k := by revert k; decide
theorem csem_injective : Function.Injective csem := fun a b h => Option.some.inj ((tag_csem a).symm.trans ((congrArg tag h).trans (tag_csem b)))

/-- The bytes of one transferred slot, as its semaphore counts them. -/
abbrev N : ℕ := (sR0.squeeze S256x1024 squeezes_S1x1x256x1024_S256x1024).view.dmaCredit
theorem N_pos : 0 < N := View.dmaCredit_pos _ (by decide)

/-! ## The schedule -/

variable (m : (ℓ : Loc nD τ sig) → Buf (Elt F) ℓ)

/-- The duties of cell `k`, what each counts, and what each hands device `c`. -/
def dut (k : Fin 14) : Finset Bool := if k.val < 2 then Finset.univ else {false}
def amt (k : Fin 14) : ℕ := if k.val < 2 then 1 else N
def pay (c : Dev nD) : Fin 14 → Bool → sProp 𝕄
  | 0, true => iprop(any (rt c) sR0 ∗ any (rt c) sR1 ∗ any (rt c) sR2 ∗ any (rt c) sA2)
  | 0, false => iprop(any (lf c) sA1 ∗ any (lf c) sA3)
  | 1, _ => iprop(emp)
  | 2, _ => any c sS0
  | 3, _ => any c sS1
  | 4, _ => any c sS2
  | 5, _ => iprop(at_ c sR0 fullShare (S0 m (lf c)) ∗ any (op c) sA3)
  | 6, _ => at_ c sR1 fullShare (S1 m (lf c))
  | 7, _ => at_ c sR2 fullShare (S2 m (lf c))
  | 8, _ => at_ c sA0 sh0 (A m c)
  | 9, _ => at_ c sA0 sh1 (A m c)
  | 10, _ => at_ c sA0 sh2 (A m c)
  | 11, _ => at_ c sA1 fullShare (A m (rt c))
  | 12, _ => at_ c sA2 fullShare (A m (lf c))
  | 13, _ => at_ c sA3 fullShare (A m (op c))
  | ⟨_ + 14, h⟩, _ => absurd h (Nat.not_lt.2 (Nat.le_add_left _ _))

theorem amt_pos (k : Fin 14) : 0 < amt k := by unfold amt; split; exacts [Nat.one_pos, N_pos]

instance pay_storable (c : Dev nD) (k : Fin 14) (d : Bool) : BI.Storable (upEmb : UEmb _ 𝕄) (pay m c k d) := by
  fin_cases k <;> cases d <;> (dsimp only [pay]; infer_instance)

def Rd : Rounds.Schedule (GSem nD τ sig) Bool 𝕄 where
  duties g r := match tag g.2 with
    | some k => if r = 0 ∧ g.1.2 = .tc then dut k else ∅
    | none => ∅
  unitless _ := False
  amount g _ _ := match tag g.2 with
    | some k => amt k
    | none => 1
  payload g _ d := match tag g.2 with
    | some k => pay m g.1.1 k d
    | none => iprop(emp)
  amount_pos g _ _ _ := by
    split
    · exact amt_pos _
    · exact Nat.one_pos

instance Rd_payload_storable (g : GSem nD τ sig) (r : ℕ) (d : Bool) : BI.Storable (upEmb : UEmb _ 𝕄) ((Rd m).payload g r d) := by
  dsimp only [Rd]; split <;> infer_instance

section Tables
variable (c : Dev nD) (k : Fin 14) (d : Bool)

theorem duties_eq : (Rd m).duties (kcell c k) 0 = dut k := by
  dsimp only [Rd]; rw [tag_csem]; exact if_pos ⟨rfl, rfl⟩
theorem duties_later (g : GSem nD τ sig) : ∀ r, 1 ≤ r → (Rd m).duties g r = ∅ := fun r hr => by
  dsimp only [Rd]
  split
  · exact if_neg fun h => by omega
  · rfl
theorem amount_eq : (Rd m).amount (kcell c k) 0 d = amt k := by dsimp only [Rd]; rw [tag_csem]
theorem payload_eq : (Rd m).payload (kcell c k) 0 d = pay m c k d := by dsimp only [Rd]; rw [tag_csem]
theorem mem_duties (h : d = false ∨ k.val < 2) : d ∈ (Rd m).duties (kcell c k) 0 := by
  rw [duties_eq]; unfold dut; rcases h with rfl | h
  · split
    · exact Finset.mem_univ _
    · exact Finset.mem_singleton_self _
  · rw [if_pos h]; exact Finset.mem_univ _
theorem expect_one (h : 2 ≤ k.val) : (Rd m).expect (kcell c k) 0 = N := by
  unfold Schedule.expect Schedule.amountOf
  rw [duties_eq]; unfold dut; rw [if_neg (by omega), Finset.sum_singleton, amount_eq]; unfold amt; rw [if_neg (by omega)]
theorem expect_two (h : k.val < 2) : (Rd m).expect (kcell c k) 0 = 2 := by
  unfold Schedule.expect Schedule.amountOf
  rw [duties_eq, Finset.sum_congr rfl fun d _ => amount_eq m c k d, Finset.sum_const]; unfold dut amt
  rw [if_pos h, if_pos h, Finset.card_univ, Fintype.card_bool, smul_eq_mul]
theorem rest_one (h : 2 ≤ k.val) : bigSep ((Rd m).duties (kcell c k) 0 \ ∅) (fun d => (Rd m).payload (kcell c k) 0 d) = pay m c k false := by
  rw [Finset.sdiff_empty, duties_eq]; unfold dut; rw [if_neg (by omega), bigSep_singleton, payload_eq]
theorem rest_two (h : k.val < 2) : bigSep ((Rd m).duties (kcell c k) 0 \ ∅) (fun d => (Rd m).payload (kcell c k) 0 d) = iprop(pay m c k false ∗ pay m c k true) := by
  rw [Finset.sdiff_empty, duties_eq]; unfold dut
  rw [if_pos h, bigSep_univ_eq_bigSepL [false, true] (by decide) (by decide), bigSepL_cons_cons, bigSepL_singleton, payload_eq, payload_eq]
  rfl
end Tables

/-! ## The payments, in program order: ten to other devices' cells, six to a device's own send cells -/

def rtE : Dev nD ≃ Dev nD := ⟨rt, lf, lf_rt, rt_lf⟩
def lfE : Dev nD ≃ Dev nD := ⟨lf, rt, rt_lf, lf_rt⟩
def opE : Dev nD ≃ Dev nD := ⟨op, op, op_op, op_op⟩

/-- Whom payment `t` goes to. -/
abbrev dest : Fin 16 → Dev nD ≃ Dev nD := fun
  | 0 => lfE | 1 => rtE | 2 => rtE | 3 => rtE | 4 => rtE | 5 => lfE | 6 => rtE | 7 => opE | 8 => lfE | 9 => rtE
  | ⟨_ + 10, _⟩ => Equiv.refl _
/-- Its cell there. -/
abbrev cix : Fin 16 → Fin 14 := fun
  | 0 => 0 | 1 => 0 | 2 => 5 | 3 => 6 | 4 => 7 | 5 => 11 | 6 => 12 | 7 => 13 | 8 => 1 | 9 => 1
  | 10 => 2 | 11 => 3 | 12 => 4 | 13 => 8 | 14 => 9 | 15 => 10
  | ⟨_ + 16, h⟩ => absurd h (Nat.not_lt.2 (Nat.le_add_left _ _))
/-- Its duty there. -/
abbrev dty : Fin 16 → Bool := fun
  | 0 => true | 8 => true | _ => false

/-- The `n`-th payment to another device's cell, counted from the last. -/
abbrev lastPay (n : ℕ) : Fin 16 := ⟨9 - n, by omega⟩
/-- What a device still owes when `n` payments remain. -/
def owedN (c : Dev nD) : ℕ → CellTallies nD τ sig Unit
  | 0 => 0
  | n + 1 => owedN c n + tallyAt (kcell (dest (lastPay n) c) (cix (lastPay n))) () (amt (cix (lastPay n)))

/-! ## Levels -/

def klv (k : Fin 14) : ℕ := match k with
  | 0 => 1 | 5 => 2 | 6 => 3 | 7 => 4 | 11 => 5 | 12 => 5 | 13 => 5 | 1 => 6 | _ => 0
def L (g : GSem nD τ sig) : Finset Unit := if g.1.2 = .tc then {()} else ∅
def lv (g : GSem nD τ sig) (_ : Unit) : ℕ := match tag g.2 with
  | some k => klv k
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Fin 14) : lv (kcell c k) () = klv k := by unfold lv; rw [tag_csem]

/-- What is still owed is owed to one of the remaining payments' cells. -/
theorem owedN_pos {c : Dev nD} {g : GSem nD τ sig} {u : Unit} (n : ℕ) (h : 0 < owedN c n g u) :
    ∃ i, i < n ∧ g = kcell (dest (lastPay i) c) (cix (lastPay i)) := by
  induction n with
  | zero => exact absurd h (Nat.lt_irrefl 0)
  | succ n ih =>
    by_cases hg : g = kcell (dest (lastPay n) c) (cix (lastPay n))
    · exact ⟨n, Nat.lt_succ_self n, hg⟩
    · rw [owedN, Pi.add_apply, Finsupp.add_apply, tallyAt_apply, if_neg (fun h' => hg h'.1)] at h
      obtain ⟨i, hi, he⟩ := ih h
      exact ⟨i, Nat.lt_succ_of_lt hi, he⟩

/-- A device may wait at a cell whose level is below those of all the cells it still owes. -/
theorem mayWait (c : Dev nD) (s : SemLoc sig) (l n : ℕ) (hl : lv ((c : Thread nD τ), s) () ≤ l) (hn : ∀ i, i < n → l < klv (cix (lastPay i))) :
    (levAts L lv : sProp 𝕄) ⊢ MayWait (c : Thread nD τ) s () (owedN c n) :=
  MayOwe.of_cut (L := L) (lev := lv) l (fun p hp => by rw [Finset.mem_singleton.mp hp, L_tc]; exact Finset.mem_singleton_self _)
    (fun g u hg => by obtain ⟨i, hi, rfl⟩ := owedN_pos n hg; rw [L_tc]; exact Finset.mem_singleton_self _)
    (fun p hp => by rw [Finset.mem_singleton.mp hp]; exact hl)
    (fun g u hg => by obtain ⟨i, hi, rfl⟩ := owedN_pos n hg; rw [lv_kcell]; exact hn i hi)

theorem mayWait_k (c : Dev nD) (k : Fin 14) (n : ℕ) (hn : ∀ i, i < n → klv k < klv (cix (lastPay i))) :
    (levAts L lv : sProp 𝕄) ⊢ MayWait (c : Thread nD τ) (csem k) () (owedN c n) :=
  mayWait c (csem k) (klv k) n (le_of_eq (lv_kcell c k)) hn

end Cert.KernelIdeal.Run

end
-- ==== Proof.KI.Steps.lean ====
/-
# One operation at a time

The rules the body's run takes its steps by, stated at this kernel's slots, cells and payments: a signal, a transfer
of a slot to another device's slot, a wait at a cell, a load and a store of a slot.
-/
module

public import Mathlib.Tactic.IntervalCases
public import Mathlib.Tactic.FinCases
public import proofs.«01_k».proof.Proof.KI.Protocol

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## What every device knows -/

/-- Every cell's invariant, and that its round is open. -/
def records (K : Dev nD × Fin 14 → ℕ) : sProp 𝕄 :=
  iprop((bigSep Finset.univ fun g : Dev nD × Fin 14 => cellInv ER (Rd m) (K g) (kcell g.1 g.2))
    ∗ bigSep Finset.univ fun g : Dev nD × Fin 14 => reached ER (kcell g.1 g.2) 0)

instance records_persistent (K : Dev nD × Fin 14 → ℕ) : BI.Persistent (records m K) := by unfold records; infer_instance

theorem records_inv (K : Dev nD × Fin 14 → ℕ) (c : Dev nD) (k : Fin 14) : records m K ⊢ cellInv ER (Rd m) (K (c, k)) (kcell c k) := by
  unfold records
  iintro ⟨H, -⟩
  iapply (show (bigSep Finset.univ fun g : Dev nD × Fin 14 => (cellInv ER (Rd m) (K g) (kcell g.1 g.2) : sProp 𝕄)) ⊢ cellInv ER (Rd m) (K (c, k)) (kcell c k) from bigSep_elim (Finset.mem_univ (c, k)))
  iexact H
theorem records_reached (K : Dev nD × Fin 14 → ℕ) (c : Dev nD) (k : Fin 14) : records m K ⊢ reached ER (kcell c k) 0 := by
  unfold records
  iintro ⟨-, H⟩
  iapply (show (bigSep Finset.univ fun g : Dev nD × Fin 14 => (reached ER (kcell g.1 g.2) 0 : sProp 𝕄)) ⊢ reached ER (kcell c k) 0 from bigSep_elim (Finset.mem_univ (c, k)))
  iexact H

/-- The right to make payment `t`. -/
def payTok (c : Dev nD) (t : Fin 16) : sProp 𝕄 := dutyTok ER (kcell (dest t c) (cix t)) 0 (dty t)

section Step
variable (K : Dev nD × Fin 14 → ℕ) (c : Dev nD)

/-- A signal: payment `9 - n`, of one unit. -/
theorem step_signal {α : Type} {Q : α → sProp 𝕄} {dst : Dev nD} {sem : Sem sig} {k' : ℕ} {k : PUnit → Prog (TpuEff nD τ sig (Elt F) Λ₀ .tc) α} (n : ℕ) {W : Waits sig Unit}
    (hdst : dst = dest (lastPay n) c) (hsem : SemLoc.reg sem = csem (cix (lastPay n))) (hk : k' = amt (cix (lastPay n)))
    (hd : dty (lastPay n) = false ∨ (cix (lastPay n)).val < 2) :
    iprop(records m K ∗ owes (c : Thread nD τ) (owedN c (n + 1)) W ∗ payTok c (lastPay n) ∗ pay m (dest (lastPay n) c) (cix (lastPay n)) (dty (lastPay n)))
      ⊢ iprop((owes (c : Thread nD τ) (owedN c n) W -∗ wp frame (wpE (defs₀ (F := F)) 𝒱₀ c none) Set.univ (k ⟨⟩) Q)
        -∗ wp frame (wpE (defs₀ (F := F)) 𝒱₀ c none) Set.univ (.op (.semSignal (dst : Thread nD τ) sem k') k) Q) := by
  subst hdst
  iintro ⟨#HR, HO, HT, HP⟩ Hk
  iapply (Rounds.wp_signal 𝒱₀ ER (Rd m) (c : Thread nD τ) none (dst := (dest (lastPay n) c : Thread nD τ)) (κ := K (dest (lastPay n) c, cix (lastPay n)))
      (d := dty (lastPay n)) (r := 0) (by rw [hsem]; exact mem_duties m _ _ _ hd) (by rw [hsem]; exact (amount_eq m _ _ _).trans hk.symm) ()
      (owedN c n) (by rw [hsem, hk])) $$ [HO HT HP] [Hk]
  · rw [hsem]
    isplitr; · iapply (records_inv m K); iexact HR
    isplitl [HO]; · iexact HO
    isplitl [HT]; · unfold payTok; iexact HT
    isplitl [HP]; · rw [payload_eq]; iexact HP
    iapply (records_reached m K); iexact HR
  · iexact Hk

/-- A slot's read through its squeezed view after a squeezed slot was copied there whole. -/
theorem read_sent {κ κ' : Kind} {M : Memref sig κ .vmem S1x1x256x1024 .bf16} {M' : Memref sig κ' .vmem S1x1x256x1024 .bf16}
    (hq : S1x1x256x1024.Squeezes S256x1024) (hq' : S1x1x256x1024.Squeezes S256x1024) (f : M.view.ty.Contents (Elt F)) (g : M'.view.ty.Contents (Elt F)) :
    M'.view.read (Elt F) ((M'.squeeze S256x1024 hq').view.write (Elt F) g ((M.squeeze S256x1024 hq).view.read (Elt F) f) Finset.univ) = M.view.read (Elt F) f := by
  have h := View.read_write_univ (v := (M'.squeeze S256x1024 hq').view) (Val := Elt F) g ((M.squeeze S256x1024 hq).view.read (Elt F) f)
  funext x
  have h' := congrFun h ((Shape.reshapeEquiv hq'.numel_eq).symm x)
  have e : ∀ (κ : Kind) (M : Memref sig κ .vmem S1x1x256x1024 .bf16) (f : M.view.ty.Contents (Elt F)),
      (M.squeeze S256x1024 hq).view.read (Elt F) f ((Shape.reshapeEquiv hq'.numel_eq).symm x) = M.view.read (Elt F) f x := fun κ M f =>
    show M.view.read (Elt F) f (Shape.reshapeEquiv hq'.numel_eq ((Shape.reshapeEquiv hq'.numel_eq).symm x)) = _ by
      rw [Equiv.apply_symm_apply]
  rw [← e, h', e]

/-- A transfer of a slot: payment `9 - n` at the receiver's cell, payment `u` at the sender's own. -/
theorem step_send {α : Type} {Q : α → sProp 𝕄} {c' : Dev nD} {src dst : Memref sig .tc .vmem S1x1x256x1024 .bf16} {hq hq' : S1x1x256x1024.Squeezes S256x1024}
    {s₁ s₂ : DmaSem sig} {hsc : (dst.squeeze S256x1024 hq').view.ref.isScScratch = false}
    {hsrc : (src.squeeze S256x1024 hq).view.WordExact} {hdst : (dst.squeeze S256x1024 hq').view.WordExact}
    {hsem : DmaTarget.Typed .vmem (.dma s₂) (.remote (Dev.tc c') (dst.squeeze S256x1024 hq') (.dma s₁) hsc)}
    {k : PUnit → Prog (TpuEff nD τ sig (Elt F) Λ₀ .tc) α} (n : ℕ) (u : Fin 16) {W : Waits sig Unit} (q : PosShare TreeShare) (X : FVec F S1x1x256x1024 .bf16) (R : sProp 𝕄)
    (hc : c' = dest (lastPay n) c) (h₁ : SemLoc.dma s₁ = csem (cix u)) (h₂ : SemLoc.dma s₂ = csem (cix (lastPay n)))
    (hu : 10 ≤ u.val) (hn : 2 ≤ (cix (lastPay n)).val) (hu' : 2 ≤ (cix u).val) (hdn : dty (lastPay n) = false)
    (hN : (dst.squeeze S256x1024 hq').view.dmaCredit = N)
    (hpay₁ : at_ c src q X ⊢ pay m c (cix u) false)
    (hpay₂ : iprop(at_ (dest (lastPay n) c) dst fullShare X ∗ R) ⊢ pay m (dest (lastPay n) c) (cix (lastPay n)) false) :
    iprop(records m K ∗ at_ c src q X ∗ any (dest (lastPay n) c) dst ∗ R ∗ owes (c : Thread nD τ) (owedN c (n + 1)) W ∗ payTok c (lastPay n) ∗ payTok c u)
      ⊢ iprop(((cred (tallyAt (kcell c (cix u)) () N) ∗ owes (c : Thread nD τ) (owedN c n) W) -∗ wp frame (wpE (defs₀ (F := F)) 𝒱₀ c none) Set.univ (k ⟨⟩) Q)
        -∗ wp frame (wpE (defs₀ (F := F)) 𝒱₀ c none) Set.univ
          (.op (.enqueueDma (src.squeeze S256x1024 hq) (.remote (Dev.tc c') (dst.squeeze S256x1024 hq') (.dma s₁) hsc) (.dma s₂) hsrc hdst hsem) k) Q) := by
  subst hc
  have hdu : dest u c = c ∧ dty u = false := by
    refine ⟨?_, ?_⟩
    · obtain ⟨u, hlt⟩ := u; change 10 ≤ u at hu; interval_cases u <;> rfl
    · obtain ⟨u, hlt⟩ := u; change 10 ≤ u at hu; interval_cases u <;> rfl
  have ha : ∀ k : Fin 14, 2 ≤ k.val → amt k = N := fun k h => if_neg (by omega)
  rw [show owedN c (n + 1) = owedN c n + tallyAt (kcell (dest (lastPay n) c) (cix (lastPay n))) () N by rw [← ha _ hn]; rfl]
  iintro ⟨#HR, Hs, Hd, HF, HO, HT, HU⟩ Hk
  unfold any at_ owns
  icases Hs with ⟨%f, %hf, Hs⟩
  icases Hd with ⟨%Y, %g, %hg, Hd⟩
  iapply (Rounds.wp_send_pointsTo_with 𝒱₀ ER (Rd m) (c : Thread nD τ) none (c' := (dest (lastPay n) c : Thread nD τ))
      (sS := SemLoc.dma s₁) (sem := SemLoc.dma s₂) (src := src.squeeze S256x1024 hq) (dst := dst.squeeze S256x1024 hq') (q := q) (fs := f) (fd := g) (F := R)
      (κ₁ := K (c, cix u)) (κ₂ := K (dest (lastPay n) c, cix (lastPay n))) (r₁ := 0) (r₂ := 0) (d₁ := false) (d₂ := false)
      (by rw [h₁]; exact mem_duties m _ _ _ (Or.inl rfl)) (by rw [h₂]; exact mem_duties m _ _ _ (Or.inl rfl))
      () () N hN (by rw [h₁]; exact (amount_eq m _ _ _).trans (ha _ hu')) (by rw [h₂]; exact (amount_eq m _ _ _).trans (ha _ hn))
      (owedN c n) (by rw [h₂]) (W := W)
      (by
        rw [h₁, payload_eq]; refine BIBase.Entails.trans ?_ hpay₁; unfold at_ owns
        rw [Memref.set_view_squeeze]
        iintro H; iexists f; isplitr; · ipureintro; exact hf
        iexact H)
      (by
        rw [h₂, payload_eq]; refine BIBase.Entails.trans ?_ hpay₂; unfold at_ owns
        rw [Memref.set_view_squeeze]
        iintro ⟨H, HF⟩; isplitl [H]
        · iexists _; isplitr; · ipureintro; exact (read_sent hq hq' f g).trans hf
          iexact H
        · iexact HF)) $$ [Hs Hd HF HO HT HU] [Hk]
  · rw [h₁, h₂]
    isplitr; · iapply (records_inv m K); iexact HR
    isplitr; · iapply (records_inv m K); iexact HR
    isplitl [Hs]; · rw [Memref.set_view_squeeze]; iexact Hs
    isplitl [Hd HF]
    · isplitl [Hd]; · rw [Memref.set_view_squeeze]; iexact Hd
      iexact HF
    isplitl [HO]; · iexact HO
    isplitl [HU]; · unfold payTok; rw [hdu.1, hdu.2]; iexact HU
    isplitr; · iapply (records_reached m K); iexact HR
    isplitl [HT]; · unfold payTok; rw [hdn]; iexact HT
    iapply (records_reached m K); iexact HR
  · rw [h₁]; iexact Hk

/-- A wait for the whole of one of the device's transfer cells. -/
theorem step_waitDma {α : Type} {Q : α → sProp 𝕄} {s : DmaSem sig} {src dst : Memref sig .tc .vmem S256x1024 .bf16} {h₁ : src.view.WordExact} {h₂ : dst.view.WordExact}
    {k : PUnit → Prog (TpuEff nD τ sig (Elt F) Λ₀ .tc) α} (j : Fin 14) (n : ℕ) {W : Waits sig Unit}
    (hs : SemLoc.dma s = csem j) (hj : 2 ≤ j.val) (hN : dst.view.dmaCredit = N) (hlv : ∀ i, i < n → klv j < klv (cix (lastPay i))) :
    iprop(records m K ∗ levAts L lv ∗ cred (tallyAt (kcell c j) () N) ∗ owes (c : Thread nD τ) (owedN c n) W ∗ atPos ER (kcell c j) 0 ∅ 0)
      ⊢ iprop(((owes (c : Thread nD τ) (owedN c n) (insert (csem j, ()) W) ∗ atPos ER (kcell c j) 1 ∅ 0 ∗ pay m c j false)
          -∗ wp frame (wpE (defs₀ (F := F)) 𝒱₀ c none) Set.univ (k ⟨⟩) Q)
        -∗ wp frame (wpE (defs₀ (F := F)) 𝒱₀ c none) Set.univ (.op (.waitDma2 s src dst h₁ h₂) k) Q) := by
  iintro ⟨#HR, #HL, HC, HO, HA⟩ Hk
  iapply (Rounds.wp_wait_rest_token 𝒱₀ ER (Rd m) (c : Thread nD τ) none (κ := K (c, j)) (sm := csem j) (k' := N)
      (fun K' => (wpE_waitDma2_eq 𝒱₀ (c : Thread nD τ) none Set.univ K').trans (by rw [hs, hN])) (Set.mem_univ _) () (O := owedN c n) (W := W) (R := 0) (m := 0) (T := ∅)
      (by rw [Nat.zero_add, expect_one m c j hj])) $$ [HC HO HA] [Hk]
  · isplitr; · iapply (records_inv m K); iexact HR
    isplitl [HC]; · iexact HC
    isplitl [HO]; · iexact HO
    isplitr; · iapply (mayWait_k c j n hlv); iexact HL
    iexact HA
  · iintro ⟨HO, HA, -, HP⟩
    iapply Hk
    isplitl [HO]; · iexact HO
    isplitl [HA]; · iexact HA
    iapply (Entails.of_eq (rest_one m c j hj)); iexact HP

/-- A wait for both units of the barrier or of the exit semaphore. -/
theorem step_wait {α : Type} {Q : α → sProp 𝕄} {s : Sem sig} {k : PUnit → Prog (TpuEff nD τ sig (Elt F) Λ₀ .tc) α} {k' : ℕ} (j : Fin 14) (n : ℕ) {W : Waits sig Unit}
    (hs : SemLoc.reg s = csem j) (hj : j.val < 2) (hk : k' = 2) (hlv : ∀ i, i < n → klv j < klv (cix (lastPay i))) :
    iprop(records m K ∗ levAts L lv ∗ cred (tallyAt (kcell c j) () 2) ∗ owes (c : Thread nD τ) (owedN c n) W ∗ atPos ER (kcell c j) 0 ∅ 0)
      ⊢ iprop(((owes (c : Thread nD τ) (owedN c n) (insert (csem j, ()) W) ∗ atPos ER (kcell c j) 1 ∅ 0 ∗ pay m c j false ∗ pay m c j true)
          -∗ wp frame (wpE (defs₀ (F := F)) 𝒱₀ c none) Set.univ (k ⟨⟩) Q)
        -∗ wp frame (wpE (defs₀ (F := F)) 𝒱₀ c none) Set.univ (.op (.semWait s k') k) Q) := by
  subst hk
  iintro ⟨#HR, #HL, HC, HO, HA⟩ Hk
  iapply (Rounds.wp_wait_rest_token 𝒱₀ ER (Rd m) (c : Thread nD τ) none (κ := K (c, j)) (sm := csem j) (k' := 2)
      (fun K' => (wpE_semWait_eq 𝒱₀ (c : Thread nD τ) none Set.univ K').trans (by rw [hs])) (Set.mem_univ _) () (O := owedN c n) (W := W) (R := 0) (m := 0) (T := ∅)
      (by rw [Nat.zero_add, expect_two m c j hj])) $$ [HC HO HA] [Hk]
  · isplitr; · iapply (records_inv m K); iexact HR
    isplitl [HC]; · iexact HC
    isplitl [HO]; · iexact HO
    isplitr; · iapply (mayWait_k c j n hlv); iexact HL
    iexact HA
  · iintro ⟨HO, HA, -, HP⟩
    iapply Hk
    isplitl [HO]; · iexact HO
    isplitl [HA]; · iexact HA
    iapply (Entails.of_eq (rest_two m c j hj)); iexact HP

/-- A cell whose round is over closes at zero. -/
theorem step_close (j : Fin 14) : iprop(records m K ∗ atPos ER (kcell c j) 1 ∅ 0) ⊢ iprop(|={Set.univ}=> (semVal (kcell c j) 0 : sProp 𝕄)) := by
  iintro ⟨#HR, HA⟩
  iapply (Rounds.cell_close ER (Rd m) (Set.mem_univ (K (c, j))) (fun h => h) (R := 0 + 1) (duties_later m (kcell c j)))
  isplitr; · iapply (records_inv m K); iexact HR
  iexact HA

/-- A load of a slot. -/
theorem step_load {α : Type} {Q : α → sProp 𝕄} {S : Shape} {M : Memref sig .tc .vmem S .bf16} {r : Rect S} {hl : M.view.LoadsAt r.toLoadRect} (hr : ∀ a, r.stride a = 1)
    {k : (r.shape.Idx → Elt F .bf16) → Prog (TpuEff nD τ sig (Elt F) Λ₀ .tc) α} (q : PosShare TreeShare) (X : r.shape.Idx → Elt F .bf16) :
    (owns (c : Thread nD τ) (M.slice r hr) q X : sProp 𝕄)
      ⊢ iprop(((owns (c : Thread nD τ) (M.slice r hr) q X : sProp 𝕄) -∗ wp frame (wpE (defs₀ (F := F)) 𝒱₀ c none) Set.univ (k X) Q)
        -∗ wp frame (wpE (defs₀ (F := F)) 𝒱₀ c none) Set.univ (.op (.load M r.toLoadRect hl) k) Q) := by
  unfold owns
  iintro ⟨%f, %hf, H⟩ Hk
  iapply (wp_load_rect 𝒱₀ (c : Thread nD τ) none Set.univ (m := M) (r := r) (S := (M.slice r hr).view.set) (f := f) (Finset.Subset.refl _)) $$ H
  iintro H
  rw [show (M.access r).read (Elt F) f = X from hf]
  iapply Hk
  iexists f; isplitr; · ipureintro; exact hf
  iexact H

/-- A store of a slot. -/
theorem step_store {α : Type} {Q : α → sProp 𝕄} {S : Shape} {M : Memref sig .tc .vmem S .bf16} {r : Rect S} (hr : ∀ a, r.stride a = 1) {w : r.shape.Idx → Elt F .bf16}
    {hx : (M.access r).Stores Finset.univ} {hm : (Finset.univ : Finset r.shape.Idx) = Finset.univ ∨ ∀ a, r.stride a = 1}
    {k : PUnit → Prog (TpuEff nD τ sig (Elt F) Λ₀ .tc) α} (X : r.shape.Idx → Elt F .bf16) :
    (owns (c : Thread nD τ) (M.slice r hr) fullShare X : sProp 𝕄)
      ⊢ iprop(((owns (c : Thread nD τ) (M.slice r hr) fullShare w : sProp 𝕄) -∗ wp frame (wpE (defs₀ (F := F)) 𝒱₀ c none) Set.univ (k ⟨⟩) Q)
        -∗ wp frame (wpE (defs₀ (F := F)) 𝒱₀ c none) Set.univ (.op (.store M r w Finset.univ hx hm) k) Q) := by
  unfold owns
  iintro ⟨%f, %hf, H⟩ Hk
  iapply (wp_store 𝒱₀ (c : Thread nD τ) none Set.univ (m := M) (r := r) (Mk := Finset.univ) (S := (M.slice r hr).view.set) (f := f) (Finset.Subset.refl _)) $$ H
  iintro H
  iapply Hk
  iexists _; isplitr; · ipureintro; exact View.read_write_univ (v := M.access r) f w
  iexact H

end Step

end Cert.KernelIdeal.Run

end
-- ==== Proof.KI.Slots.lean ====
/-
# The communication buffers as slots

Each of the three communication buffers is its slots held one by one, and the gather buffer's own slot, held outright, is
the three shares its three transfers read it through.
-/
module

public import proofs.«01_k».proof.Proof.KI.Protocol

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

section Generic
variable (c : Dev nD) {S : Shape} (M : Memref sig .tc .vmem S .bf16) {T : Type} [Fintype T] [DecidableEq T]
  (r : T → Rect S) (hr : ∀ t a, (r t).stride a = 1)
  (hd : ∀ t t', t ≠ t' → Disjoint (r t).set (r t').set) (hcov : (Finset.univ : Finset T).biUnion (fun t => (r t).set) = Finset.univ)
include hd hcov

/-- Disjoint covering slots of a buffer, from the buffer; -/
theorem slots_split (g : M.view.ty.Contents (Elt F)) :
    (M.view.loc (c : Thread nD τ) ↦[M.view.set]{fullShare} g : sProp 𝕄)
      ⊢ bigSep Finset.univ fun t => iprop(∃ X, owns (c : Thread nD τ) (M.slice (r t) (hr t)) fullShare X) := by
  rw [pointsTo_rects (c : Thread nD τ) M fullShare r hr hd hcov g]
  exact bigSep_mono fun t _ => show (_ : sProp 𝕄) ⊢ iprop(∃ X, owns (c : Thread nD τ) (M.slice (r t) (hr t)) fullShare X) by
    iintro H; iexists _; iexact H

/-- and the buffer from them. -/
theorem slots_join :
    (bigSep Finset.univ fun t => iprop(∃ X, owns (c : Thread nD τ) (M.slice (r t) (hr t)) fullShare X) : sProp 𝕄)
      ⊢ iprop(∃ g, (M.view.loc (c : Thread nD τ) ↦[M.view.set]{fullShare} g)) := by
  have hdv : ∀ t ∈ (Finset.univ : Finset T), ∀ t' ∈ (Finset.univ : Finset T), t ≠ t' → Disjoint (M.view.slice (r t)).set (M.view.slice (r t')).set := fun t _ t' _ h => by
    rw [View.set_slice, View.set_slice]; exact (Finset.disjoint_map _).mpr (hd t t' h)
  have hset : ((Finset.univ : Finset T).biUnion fun t => (M.view.slice (r t)).set) = M.view.set := by
    ext i; constructor
    · intro hi
      obtain ⟨t, -, hi⟩ := Finset.mem_biUnion.mp hi
      exact View.set_slice_subset _ _ hi
    · intro hi
      rw [View.set, Finset.mem_map] at hi
      obtain ⟨x, -, rfl⟩ := hi
      obtain ⟨t, -, hx⟩ := Finset.mem_biUnion.mp (hcov.symm ▸ Finset.mem_univ x)
      exact Finset.mem_biUnion.mpr ⟨t, Finset.mem_univ _, by rw [View.set_slice]; exact Finset.mem_map_of_mem _ hx⟩
  have h1 : (bigSep Finset.univ fun t => iprop(∃ X, owns (c : Thread nD τ) (M.slice (r t) (hr t)) fullShare X) : sProp 𝕄)
      ⊢ bigSep Finset.univ fun t => iprop(∃ f : Buf (Elt F) (M.view.loc (c : Thread nD τ)), M.view.loc (c : Thread nD τ) ↦[(M.view.slice (r t)).set]{fullShare} f) :=
    bigSep_mono fun t _ => show iprop(∃ X, owns (c : Thread nD τ) (M.slice (r t) (hr t)) fullShare X)
        ⊢ iprop(∃ f : Buf (Elt F) (M.view.loc (c : Thread nD τ)), M.view.loc (c : Thread nD τ) ↦[(M.view.slice (r t)).set]{fullShare} f) by
      unfold owns
      iintro ⟨%X, %f, -, H⟩
      iexists f; iexact H
  refine h1.trans ?_
  haveI : Nonempty (Buf (Elt F) (M.view.loc (c : Thread nD τ))) := ⟨fun _ => Classical.arbitrary _⟩
  iintro H
  ihave H := (bigSep_exists_pi Finset.univ fun t (f : Buf (Elt F) (M.view.loc (c : Thread nD τ))) => (M.view.loc (c : Thread nD τ) ↦[(M.view.slice (r t)).set]{fullShare} f : sProp 𝕄)) $$ H
  icases H with ⟨%fs, H⟩
  ihave H := (pointsTo_biUnion_join Finset.univ (fun t => (M.view.slice (r t)).set) fs (Classical.arbitrary _) hdv) $$ H
  icases H with ⟨%g, -, H⟩
  iexists g
  rw [← hset]
  iexact H

end Generic

/-- The slots of the two three-slot buffers, and of the gather buffer. -/
def r3 (t : Fin 3) : Rect S1x3x256x1024 := Rect.unit (s := S1x3x256x1024) ![0, t.val, 0, 0] S1x1x256x1024.size (by revert t; decide)
def r4 (t : Fin 4) : Rect S1x4x256x1024 := Rect.unit (s := S1x4x256x1024) ![0, t.val, 0, 0] S1x1x256x1024.size (by revert t; decide)

theorem r3_disjoint (t t' : Fin 3) (h : t ≠ t') : Disjoint (r3 t).set (r3 t').set :=
  Finset.disjoint_left.mpr fun i hi hi' => by
    have h1 := (Rect.mem_set_unit.mp hi) 1
    have h2 := (Rect.mem_set_unit.mp hi') 1
    have h3 : (![0, t.val, 0, 0] : Fin 4 → ℕ) 1 = t.val := rfl
    have h4 : (![0, t'.val, 0, 0] : Fin 4 → ℕ) 1 = t'.val := rfl
    have h5 : S1x1x256x1024.size 1 = 1 := rfl
    exact h (Fin.ext (by omega))
theorem r4_disjoint (t t' : Fin 4) (h : t ≠ t') : Disjoint (r4 t).set (r4 t').set :=
  Finset.disjoint_left.mpr fun i hi hi' => by
    have h1 := (Rect.mem_set_unit.mp hi) 1
    have h2 := (Rect.mem_set_unit.mp hi') 1
    have h3 : (![0, t.val, 0, 0] : Fin 4 → ℕ) 1 = t.val := rfl
    have h4 : (![0, t'.val, 0, 0] : Fin 4 → ℕ) 1 = t'.val := rfl
    have h5 : S1x1x256x1024.size 1 = 1 := rfl
    exact h (Fin.ext (by omega))
theorem r3_cover : (Finset.univ : Finset (Fin 3)).biUnion (fun t => (r3 t).set) = Finset.univ := by
  ext i; simp only [Finset.mem_biUnion, Finset.mem_univ, true_and, iff_true]
  refine ⟨⟨(i 1).val, (i 1).isLt⟩, Rect.mem_set_unit.mpr fun a => ?_⟩
  have h0 := (i 0).isLt; have h2 := (i 2).isLt; have h3 := (i 3).isLt
  match a with
  | 0 => exact ⟨Nat.zero_le _, by change _ < 0 + 1; change _ < 1 at h0; omega⟩
  | 1 => exact ⟨le_refl _, Nat.lt_succ_self _⟩
  | 2 => exact ⟨Nat.zero_le _, by change _ < 0 + 256; change _ < 256 at h2; omega⟩
  | 3 => exact ⟨Nat.zero_le _, by change _ < 0 + 1024; change _ < 1024 at h3; omega⟩
theorem r4_cover : (Finset.univ : Finset (Fin 4)).biUnion (fun t => (r4 t).set) = Finset.univ := by
  ext i; simp only [Finset.mem_biUnion, Finset.mem_univ, true_and, iff_true]
  refine ⟨⟨(i 1).val, (i 1).isLt⟩, Rect.mem_set_unit.mpr fun a => ?_⟩
  have h0 := (i 0).isLt; have h2 := (i 2).isLt; have h3 := (i 3).isLt
  match a with
  | 0 => exact ⟨Nat.zero_le _, by change _ < 0 + 1; change _ < 1 at h0; omega⟩
  | 1 => exact ⟨le_refl _, Nat.lt_succ_self _⟩
  | 2 => exact ⟨Nat.zero_le _, by change _ < 0 + 256; change _ < 256 at h2; omega⟩
  | 3 => exact ⟨Nat.zero_le _, by change _ < 0 + 1024; change _ < 1024 at h3; omega⟩

/-- The whole of a buffer, whatever it holds. -/
abbrev anyWhole (c : Dev nD) (b : Ref sig .tc) : sProp 𝕄 := iprop(∃ g : Buf (Elt F) ((c : Thread nD τ).loc b), (c : Thread nD τ).loc b ↦{fullShare} g)

theorem whole_pts (c : Dev nD) (b : Ref sig .tc) (q : PosShare TreeShare) (g : Buf (Elt F) ((c : Thread nD τ).loc b)) :
    (((Memref.whole b).view.loc (c : Thread nD τ) ↦[(Memref.whole b).view.set]{q} g : sProp 𝕄)) = ((c : Thread nD τ).loc b ↦{q} g) := by
  show ((c : Thread nD τ).loc b ↦[(View.whole b : View sig .tc _ _ _).set]{q} g : sProp 𝕄) = _
  rw [View.set_whole]

theorem send_slots (c : Dev nD) :
    (bigSep Finset.univ fun t => iprop(∃ X, owns (c : Thread nD τ) ((Memref.whole cc0_scratch1).slice (r3 t) (fun _ => rfl)) fullShare X) : sProp 𝕄) = iprop(any c sS0 ∗ any c sS1 ∗ any c sS2) := by
  rw [bigSep_univ_eq_bigSepL [0, 1, 2] (by decide) (by decide)]; rfl
theorem split_send (c : Dev nD) : anyWhole (F := F) c cc0_scratch1 ⊢ iprop(any c sS0 ∗ any c sS1 ∗ any c sS2) := by
  iintro ⟨%g, H⟩
  ihave H := (show ((c : Thread nD τ).loc cc0_scratch1 ↦{fullShare} g : sProp 𝕄) ⊢ _ from
    (Entails.of_eq (whole_pts c _ fullShare g).symm).trans (slots_split c (Memref.whole cc0_scratch1) r3 (fun _ _ => rfl) r3_disjoint r3_cover g)) $$ H
  iapply (Entails.of_eq (send_slots c)); iexact H
theorem recv_slots (c : Dev nD) :
    (bigSep Finset.univ fun t => iprop(∃ X, owns (c : Thread nD τ) ((Memref.whole cc0_scratch2).slice (r3 t) (fun _ => rfl)) fullShare X) : sProp 𝕄) = iprop(any c sR0 ∗ any c sR1 ∗ any c sR2) := by
  rw [bigSep_univ_eq_bigSepL [0, 1, 2] (by decide) (by decide)]; rfl
theorem split_recv (c : Dev nD) : anyWhole (F := F) c cc0_scratch2 ⊢ iprop(any c sR0 ∗ any c sR1 ∗ any c sR2) := by
  iintro ⟨%g, H⟩
  ihave H := (show ((c : Thread nD τ).loc cc0_scratch2 ↦{fullShare} g : sProp 𝕄) ⊢ _ from
    (Entails.of_eq (whole_pts c _ fullShare g).symm).trans (slots_split c (Memref.whole cc0_scratch2) r3 (fun _ _ => rfl) r3_disjoint r3_cover g)) $$ H
  iapply (Entails.of_eq (recv_slots c)); iexact H
theorem gather_slots (c : Dev nD) :
    (bigSep Finset.univ fun t => iprop(∃ X, owns (c : Thread nD τ) ((Memref.whole cc0_scratch3).slice (r4 t) (fun _ => rfl)) fullShare X) : sProp 𝕄) = iprop(any c sA0 ∗ any c sA1 ∗ any c sA2 ∗ any c sA3) := by
  rw [bigSep_univ_eq_bigSepL [0, 1, 2, 3] (by decide) (by decide)]; rfl
theorem split_gather (c : Dev nD) : anyWhole (F := F) c cc0_scratch3 ⊢ iprop(any c sA0 ∗ any c sA1 ∗ any c sA2 ∗ any c sA3) := by
  iintro ⟨%g, H⟩
  ihave H := (show ((c : Thread nD τ).loc cc0_scratch3 ↦{fullShare} g : sProp 𝕄) ⊢ _ from
    (Entails.of_eq (whole_pts c _ fullShare g).symm).trans (slots_split c (Memref.whole cc0_scratch3) r4 (fun _ _ => rfl) r4_disjoint r4_cover g)) $$ H
  iapply (Entails.of_eq (gather_slots c)); iexact H

theorem join_send (c : Dev nD) : iprop(any c sS0 ∗ any c sS1 ∗ any c sS2) ⊢ anyWhole (F := F) c cc0_scratch1 := by
  refine (Entails.of_eq ?_).trans ((slots_join c (Memref.whole cc0_scratch1) r3 (fun _ _ => rfl) r3_disjoint r3_cover).trans ?_)
  · exact (send_slots c).symm
  · iintro ⟨%g, H⟩; iexists g; iapply (Entails.of_eq (whole_pts c _ fullShare g)); iexact H
theorem join_recv (c : Dev nD) : iprop(any c sR0 ∗ any c sR1 ∗ any c sR2) ⊢ anyWhole (F := F) c cc0_scratch2 := by
  refine (Entails.of_eq ?_).trans ((slots_join c (Memref.whole cc0_scratch2) r3 (fun _ _ => rfl) r3_disjoint r3_cover).trans ?_)
  · exact (recv_slots c).symm
  · iintro ⟨%g, H⟩; iexists g; iapply (Entails.of_eq (whole_pts c _ fullShare g)); iexact H
theorem join_gather (c : Dev nD) : iprop(any c sA0 ∗ any c sA1 ∗ any c sA2 ∗ any c sA3) ⊢ anyWhole (F := F) c cc0_scratch3 := by
  refine (Entails.of_eq ?_).trans ((slots_join c (Memref.whole cc0_scratch3) r4 (fun _ _ => rfl) r4_disjoint r4_cover).trans ?_)
  · exact (gather_slots c).symm
  · iintro ⟨%g, H⟩; iexists g; iapply (Entails.of_eq (whole_pts c _ fullShare g)); iexact H

/-- A slot held outright, as three shares; -/
theorem at_thirds (c : Dev nD) (M : Memref sig .tc .vmem S1x1x256x1024 .bf16) (X : FVec F S1x1x256x1024 .bf16) :
    at_ c M fullShare X ⊢ iprop(at_ c M sh0 X ∗ at_ c M sh1 X ∗ at_ c M sh2 X) := by
  unfold at_ owns
  iintro ⟨%f, %hf, H⟩
  ihave H := (pointsTo_share (PosShare.mem_left_op_right fullShare)).1 $$ H
  icases H with ⟨H0, H⟩
  ihave H := (pointsTo_share (PosShare.mem_left_op_right fullShare.right)).1 $$ H
  icases H with ⟨H1, H2⟩
  isplitl [H0]
  · iexists f; isplitr; · ipureintro; exact hf
    iexact H0
  isplitl [H1]
  · iexists f; isplitr; · ipureintro; exact hf
    iexact H1
  · iexists f; isplitr; · ipureintro; exact hf
    iexact H2

/-- two shares of a slot are their sum; -/
theorem at_join (c : Dev nD) (M : Memref sig .tc .vmem S1x1x256x1024 .bf16) (X : FVec F S1x1x256x1024 .bf16) (q : PosShare TreeShare) :
    iprop(at_ c M q.left X ∗ at_ c M q.right X) ⊢ at_ c M q X := by
  unfold at_ owns
  iintro ⟨⟨%f, %hf, H0⟩, ⟨%g, %hg, H1⟩⟩
  have e : (M.view.loc (c : Thread nD τ) ↦[M.view.set]{q.right} g : sProp 𝕄) = M.view.loc (c : Thread nD τ) ↦[M.view.set]{q.right} f :=
    pointsTo_congr fun i hi => by
      rw [View.set, Finset.mem_map] at hi
      obtain ⟨x, -, rfl⟩ := hi
      have h := congrFun (hg.trans hf.symm) x
      simp only [View.read] at h
      exact (cast_inj _).mp h
  ihave H1 := (Entails.of_eq e) $$ H1
  iexists f; isplitr; · ipureintro; exact hf
  iapply (pointsTo_share (PosShare.mem_left_op_right q)).2
  isplitl [H0] <;> iassumption

/-- and the three shares are the slot. -/
theorem at_thirds_join (c : Dev nD) (M : Memref sig .tc .vmem S1x1x256x1024 .bf16) (X : FVec F S1x1x256x1024 .bf16) :
    iprop(at_ c M sh0 X ∗ at_ c M sh1 X ∗ at_ c M sh2 X) ⊢ at_ c M fullShare X := by
  iintro ⟨H0, H⟩
  ihave H := (at_join c M X fullShare.right) $$ H
  iapply (at_join c M X fullShare)
  isplitl [H0] <;> iassumption

end Cert.KernelIdeal.Run

end
-- ==== Proof.KI.Out.lean ====
/-
# The result

The kernel's result is the same on every device: its `b`-th chunk of 256 rows holds the rows that the device before `b`
finished. A device writes its own rows and the three it receives, chunk by chunk.
-/
module

public import proofs.«01_k».proof.Proof.KI.Contents
public import Idealize.ShloMosaic.Lib.WritesUnit
public import Idealize.ShloMosaic.Lib.ValueLayout

@[expose] public section

noncomputable section

namespace Cert.KernelIdeal.Run

open Cert.KernelIdeal Cert.KernelIdeal.Gen
open Idealize.ShloMosaic Idealize.ShloMosaic.TcCoe Idealize.SL.Sem

variable {F : FTy → Type} [FloatOps F] [Named F]

/-! ## The rows a device reads and writes -/

theorem off3_one (c : Dev nD) : k0_off3 c 1#32 = ![0, 256 * (rt c).val, 0] := by revert c; decide +kernel
theorem off3_two (c : Dev nD) : k0_off3 c 2#32 = ![0, 256 * (op c).val, 0] := by revert c; decide +kernel
theorem off3_three (c : Dev nD) : k0_off3 c 3#32 = ![0, 256 * (lf c).val, 0] := by revert c; decide +kernel
theorem off2_one (c : Dev nD) : k0_off2 c 1#32 = ![256 * (lf c).val, 0] := by revert c; decide +kernel
theorem off2_two (c : Dev nD) : k0_off2 c 2#32 = ![256 * (op c).val, 0] := by revert c; decide +kernel
theorem off2_three (c : Dev nD) : k0_off2 c 3#32 = ![256 * (rt c).val, 0] := by revert c; decide +kernel

theorem lf_op (c : Dev nD) : lf (op c) = rt c := by revert c; decide

/-! ## The result -/

set_option backward.proofsInPublic true in
/-- The chunk of a row of the result. -/
def chunkOf (i : S1x1024x1024.Idx) : Dev nD :=
  ⟨(i 1).val / 256, Nat.div_lt_of_lt_mul (show (i 1).val < 256 * 4 from (i 1).isLt)⟩
set_option backward.proofsInPublic true in
/-- A row and column of the result, within its chunk. -/
def within (i : S1x1024x1024.Idx) : S256x1024.Idx :=
  ValueIdx.ix2 (⟨(i 1).val % 256, Nat.mod_lt _ (by decide)⟩ : Fin 256) (⟨(i 2).val, (i 2).isLt⟩ : Fin 1024)

variable (m : (ℓ : Loc nD τ sig) → Buf (Elt F) ℓ)

/-- The kernel's result. -/
def OUT : (cc0_stg5_0 : Ref sig .tc).ty.Contents (Elt F) := fun i => V m (lf (chunkOf i)) (within i)

/-! ## Writing it chunk by chunk -/

/-- A chunk with a leading unit axis reads the chunk. -/
theorem chunk_cast (w : FVec F S256x1024 .bf16) (y : S1x256x1024.Idx) :
    shapeCast S1x256x1024 w shapeCasts_S256x1024_S1x256x1024 y
      = w (ValueIdx.ix2 (⟨(y 1).val, (y 1).isLt⟩ : Fin 256) (⟨(y 2).val, (y 2).isLt⟩ : Fin 1024)) :=
  (congrArg (shapeCast S1x256x1024 w shapeCasts_S256x1024_S1x256x1024) (ValueIdx.eq_ix3 (n0 := 1) (n1 := 256) (n2 := 1024) y)).trans
    (ValueIdx.shapeCast_ab_1ab_apply (a := 256) (b := 1024) w shapeCasts_S256x1024_S1x256x1024 (y 0) (y 1) (y 2))

/-- A chunk of 256 rows stored into the result's buffer: those rows are the chunk's, the others stay. -/
theorem write_chunk (f : (cc0_stg5_0 : Ref sig .tc).ty.Contents (Elt F)) (off : Fin 3 → ℕ)
    (inb : ∀ a, off a + S1x256x1024.size a ≤ S1x1024x1024.size a) (d : Dev nD) (hoff : off = ![0, 256 * d.val, 0])
    (w : FVec F S256x1024 .bf16) (p : FVec F S1x256x1024 .bf16)
    (hp : p = shapeCast S1x256x1024 w shapeCasts_S256x1024_S1x256x1024) (i : S1x1024x1024.Idx) :
    (((Memref.whole cc0_stg5_0 : Memref sig .tc .vmem S1x1024x1024 .bf16).access
      (Rect.unit (s := S1x1024x1024) off S1x256x1024.size inb)).write (Elt F) f p Finset.univ) i
      = if chunkOf i = d then w (within i) else f i := by
  have e := View.read_writes_cons_unit (s := S1x1024x1024) (e := .bf16) (Val := Elt F) (off := off) (off' := ![0, 256 * d.val, 0]) (size := S1x256x1024.size)
    (View.whole cc0_stg5_0) f inb p [] i hoff
  rw [View.read_whole, View.writes_nil, View.read_whole] at e
  refine Eq.trans ?_ (Eq.trans e ?_)
  · rfl
  have h0 : (i 0).val < 1 := (i 0).isLt
  have h1 : (i 1).val < 1024 := (i 1).isLt
  have h2 : (i 2).val < 1024 := (i 2).isLt
  by_cases hd : chunkOf i = d
  · have hv : (i 1).val / 256 = d.val := congrArg Fin.val hd
    have hall : ∀ a, (![0, 256 * d.val, 0] : Fin 3 → ℕ) a ≤ (i a).val ∧ (i a).val < (![0, 256 * d.val, 0] : Fin 3 → ℕ) a + S1x256x1024.size a := by
      intro a
      match a with
      | ⟨0, _⟩ => exact ⟨Nat.zero_le _, by show (i 0).val < 0 + 1; omega⟩
      | ⟨1, _⟩ => exact ⟨by show 256 * d.val ≤ (i 1).val; omega, by show (i 1).val < 256 * d.val + 256; omega⟩
      | ⟨2, _⟩ => exact ⟨Nat.zero_le _, by show (i 2).val < 0 + 1024; omega⟩
    rw [dif_pos hall, if_pos hd, hp]
    refine (chunk_cast w _).trans (congrArg w ?_)
    refine Shape.idx_ext₂ ?_ ?_
    · show (i 1).val - 256 * d.val = (i 1).val % 256
      omega
    · show (i 2).val - 0 = (i 2).val
      omega
  · rw [if_neg hd, dif_neg]
    · intro h
      have := h 1
      have l : 256 * d.val ≤ (i 1).val := this.1
      have r : (i 1).val < 256 * d.val + 256 := this.2
      exact hd (Fin.ext (by show (i 1).val / 256 = d.val; omega))

theorem pay69_eq (w : FVec F S256x1024 .bf16) : k0_pay69 w = shapeCast S1x256x1024 w shapeCasts_S256x1024_S1x256x1024 := rfl
theorem pay70_eq (w : FVec F S256x1024 .bf16) : k0_pay70 (k0_pay68 w) = shapeCast S1x256x1024 w shapeCasts_S256x1024_S1x256x1024 :=
  congrArg (fun u => shapeCast S1x256x1024 u shapeCasts_S256x1024_S1x256x1024) (shapeCast_shapeCast w _ _)
theorem pay71_eq (w : FVec F S256x1024 .bf16) : k0_pay71 (k0_pay68 w) = shapeCast S1x256x1024 w shapeCasts_S256x1024_S1x256x1024 :=
  congrArg (fun u => shapeCast S1x256x1024 u shapeCasts_S256x1024_S1x256x1024) (shapeCast_shapeCast w _ _)
theorem pay73_eq (w : FVec F S256x1024 .bf16) : k0_pay73 (k0_pay72 (k0_pay68 w)) = shapeCast S1x256x1024 w shapeCasts_S256x1024_S1x256x1024 :=
  congrArg (fun u => shapeCast S1x256x1024 u shapeCasts_S256x1024_S1x256x1024) (shapeCast_shapeCast w _ _)

/-- A chunk of 256 rows stored into the result's buffer. -/
abbrev putChunk (off : Fin 3 → ℕ) (inb : ∀ a, off a + S1x256x1024.size a ≤ S1x1024x1024.size a)
    (f : (cc0_stg5_0 : Ref sig .tc).ty.Contents (Elt F)) (p : FVec F S1x256x1024 .bf16) : (cc0_stg5_0 : Ref sig .tc).ty.Contents (Elt F) :=
  ((Memref.whole cc0_stg5_0 : Memref sig .tc .vmem S1x1024x1024 .bf16).access
    (Rect.unit (s := S1x1024x1024) off S1x256x1024.size inb)).write (Elt F) f p Finset.univ

/-- The four stores of device `c`, over whatever the buffer held, leave the result. -/
theorem out_writes (c : Dev nD) (f : (cc0_stg5_0 : Ref sig .tc).ty.Contents (Elt F)) :
    putChunk (k0_off3 c 3#32) (k0_off3_inb c 2)
      (putChunk (k0_off4 c) (k0_off4_inb c)
        (putChunk (k0_off3 c 2#32) (k0_off3_inb c 1)
          (putChunk (k0_off3 c 1#32) (k0_off3_inb c 0) f (k0_pay69 (V m c)))
          (k0_pay70 (A m (rt c))))
        (k0_pay71 (A m (lf c))))
      (k0_pay73 (k0_pay72 (A m (op c)))) = OUT m := by
  unfold A OUT
  generalize V m = v
  rw [pay69_eq, pay70_eq, pay71_eq, pay73_eq]
  funext i
  have all : ∀ d c : Dev nD, d = lf c ∨ d = c ∨ d = op c ∨ d = rt c := by decide
  refine (write_chunk _ _ _ (lf c) (off3_three c) (v (op c)) _ rfl i).trans ?_
  by_cases h3 : chunkOf i = lf c
  · rw [if_pos h3, h3, lf_lf]
  rw [if_neg h3]
  refine (write_chunk _ _ _ c (k0_off4_eq c) (v (lf c)) _ rfl i).trans ?_
  by_cases h2 : chunkOf i = c
  · rw [if_pos h2, h2]
  rw [if_neg h2]
  refine (write_chunk _ _ _ (op c) (off3_two c) (v (rt c)) _ rfl i).trans ?_
  by_cases h1 : chunkOf i = op c
  · rw [if_pos h1, h1, lf_op]
  rw [if_neg h1]
  refine (write_chunk _ _ _ (rt c) (off3_one c) (v c) _ rfl i).trans ?_
  by_cases h0 : chunkOf i = rt c
  · rw [if_pos h0, h0, lf_rt]
  exact absurd (all (chunkOf i) c) (by simp only [h0, h1, h2, h3, or_self, not_false_eq_true])

end Cert.KernelIdeal.Run

end
-- ==== Proof.KI.Body.lean ====
/-
# One device's run of the body

From its staged arguments, its scratch buffers, its tokens and credits, device `c` runs the body to the result: the
partial results go around the ring, the finished rows to the three other devices, and every semaphore is back at zero.
-/
module

public import proofs.«01_k».proof.Proof.KI.Steps
public import proofs.«01_k».proof.Proof.KI.Slots
public import proofs.«01_k».proof.Proof.KI.Out

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The devices a device talks to -/

theorem dev1_eq (c : Dev nD) : (⟨k0_dev1 c, k0_dev1_lt c⟩ : Dev nD) = lf c := by revert c; decide +kernel
theorem dev2_eq (c : Dev nD) : (⟨k0_dev2 c, k0_dev2_lt c⟩ : Dev nD) = rt c := by revert c; decide +kernel
theorem dev3_eq (c : Dev nD) : (⟨k0_dev3 c, k0_dev3_lt c⟩ : Dev nD) = rt c := by revert c; decide +kernel
theorem dev4_eq (c : Dev nD) : (⟨k0_dev4 c, k0_dev4_lt c⟩ : Dev nD) = rt c := by revert c; decide +kernel
theorem dev5_eq (c : Dev nD) : (⟨k0_dev5 c, k0_dev5_lt c⟩ : Dev nD) = rt c := by revert c; decide +kernel
theorem dev6_eq (c : Dev nD) : (⟨k0_dev6 c, k0_dev6_lt c⟩ : Dev nD) = lf c := by revert c; decide +kernel
theorem dev7_eq (c : Dev nD) : (⟨k0_dev7 c, k0_dev7_lt c⟩ : Dev nD) = rt c := by revert c; decide +kernel
theorem dev8_eq (c : Dev nD) : (⟨k0_dev8 c, k0_dev8_lt c⟩ : Dev nD) = op c := by revert c; decide +kernel
theorem dev9_eq (c : Dev nD) : (⟨k0_dev9 c, k0_dev9_lt c⟩ : Dev nD) = lf c := by revert c; decide +kernel
theorem dev10_eq (c : Dev nD) : (⟨k0_dev10 c, k0_dev10_lt c⟩ : Dev nD) = rt c := by revert c; decide +kernel

/-! ## Whole buffers -/

abbrev mX : Memref sig .tc .vmem S1x1024x1024 .bf16 := Memref.whole cc0_stg0_0
abbrev mWq : Memref sig .tc .vmem S1024x1024 .bf16 := Memref.whole cc0_stg1_0
abbrev mWk : Memref sig .tc .vmem S1024x1024 .bf16 := Memref.whole cc0_stg2_0
abbrev mWv : Memref sig .tc .vmem S1024x1024 .bf16 := Memref.whole cc0_stg3_0
abbrev mWo : Memref sig .tc .vmem S1024x1024 .bf16 := Memref.whole cc0_stg4_0
abbrev mO : Memref sig .tc .vmem S1x1024x1024 .bf16 := Memref.whole cc0_stg5_0

theorem z2 : (![0, 0] : Fin 2 → ℕ) = fun _ => 0 := by funext a; fin_cases a <;> rfl
theorem z3 : (![0, 0, 0] : Fin 3 → ℕ) = fun _ => 0 := by funext a; fin_cases a <;> rfl

abbrev rX : Rect S1x1024x1024 := Rect.unit (s := S1x1024x1024) ![0, 0, 0] S1x1024x1024.size inb_S1x1024x1024_S1x1024x1024_0_0_0
abbrev rW : Rect S1024x1024 := Rect.unit (s := S1024x1024) ![0, 0] S1024x1024.size inb_S1024x1024_S1024x1024_0_0

theorem read_x (f : (cc0_stg0_0 : Ref sig .tc).ty.Contents (Elt F)) : mX.view.readAt (Elt F) rX.toLoadRect f = f := Memref.readAt_unit_zero (Elt F) cc0_stg0_0 z3 _ f
theorem read_wq (f : (cc0_stg1_0 : Ref sig .tc).ty.Contents (Elt F)) : mWq.view.readAt (Elt F) rW.toLoadRect f = f := Memref.readAt_unit_zero (Elt F) cc0_stg1_0 z2 _ f
theorem read_wk (f : (cc0_stg2_0 : Ref sig .tc).ty.Contents (Elt F)) : mWk.view.readAt (Elt F) rW.toLoadRect f = f := Memref.readAt_unit_zero (Elt F) cc0_stg2_0 z2 _ f
theorem read_wv (f : (cc0_stg3_0 : Ref sig .tc).ty.Contents (Elt F)) : mWv.view.readAt (Elt F) rW.toLoadRect f = f := Memref.readAt_unit_zero (Elt F) cc0_stg3_0 z2 _ f
theorem read_wo (f : (cc0_stg4_0 : Ref sig .tc).ty.Contents (Elt F)) : mWo.view.readAt (Elt F) rW.toLoadRect f = f := Memref.readAt_unit_zero (Elt F) cc0_stg4_0 z2 _ f
theorem write_q (f w : (cc0_scratch0 : Ref sig .tc).ty.Contents (Elt F)) : (mQ.access rW).write (Elt F) f w Finset.univ = w := Memref.write_access_unit_zero_univ (Elt F) cc0_scratch0 z2 _ f w

/-! ## What is handed over -/

theorem pay_left (c : Dev nD) : iprop(any c sR0 ∗ any c sR1 ∗ any c sR2 ∗ any c sA2) ⊢ pay m (dest (lastPay 9) c) (cix (lastPay 9)) (dty (lastPay 9)) :=
  Entails.of_eq (by
    show _ = iprop(any (rt (lf c)) sR0 ∗ any (rt (lf c)) sR1 ∗ any (rt (lf c)) sR2 ∗ any (rt (lf c)) sA2)
    rw [rt_lf])
theorem pay_right (c : Dev nD) : iprop(any c sA1 ∗ any c sA3) ⊢ pay m (dest (lastPay 8) c) (cix (lastPay 8)) (dty (lastPay 8)) :=
  Entails.of_eq (by
    show _ = iprop(any (lf (rt c)) sA1 ∗ any (lf (rt c)) sA3)
    rw [lf_rt])
theorem at_any (c : Dev nD) (M : Memref sig .tc .vmem S1x1x256x1024 .bf16) (X : FVec F S1x1x256x1024 .bf16) : at_ c M fullShare X ⊢ any c M := by
  unfold any; iintro H; iexists X; iexact H
/-- Every slot counts the same on its semaphore. -/
theorem credit (M : Memref sig .tc .vmem S256x1024 .bf16) : M.view.dmaCredit = N := rfl
theorem any_elim (c : Dev nD) (M : Memref sig .tc .vmem S1x1x256x1024 .bf16) : any (F := F) c M ⊢ iprop(∃ X, owns (c : Thread nD τ) M fullShare X) := by
  unfold any at_; exact BIBase.Entails.rfl
theorem drop_emp (P : sProp 𝕄) : iprop(P ∗ emp) ⊢ P := by iintro ⟨H, -⟩; iexact H
theorem pay_first (c : Dev nD) : iprop(at_ (rt c) sR0 fullShare (S0 m c) ∗ any (lf c) sA3) ⊢ pay m (rt c) 5 false :=
  Entails.of_eq (by
    show _ = iprop(at_ (rt c) sR0 fullShare (S0 m (lf (rt c))) ∗ any (op (rt c)) sA3)
    rw [lf_rt, op_rt])
theorem pay_second (c : Dev nD) : iprop(at_ (rt c) sR1 fullShare (S1 m c) ∗ emp) ⊢ pay m (rt c) 6 false :=
  (drop_emp _).trans (Entails.of_eq (by
    show _ = at_ (rt c) sR1 fullShare (S1 m (lf (rt c)))
    rw [lf_rt]))
theorem pay_third (c : Dev nD) : iprop(at_ (rt c) sR2 fullShare (S2 m c) ∗ emp) ⊢ pay m (rt c) 7 false :=
  (drop_emp _).trans (Entails.of_eq (by
    show _ = at_ (rt c) sR2 fullShare (S2 m (lf (rt c)))
    rw [lf_rt]))
theorem pay_gather1 (c : Dev nD) : iprop(at_ (lf c) sA1 fullShare (A m c) ∗ emp) ⊢ pay m (lf c) 11 false :=
  (drop_emp _).trans (Entails.of_eq (by
    show _ = at_ (lf c) sA1 fullShare (A m (rt (lf c)))
    rw [rt_lf]))
theorem pay_gather2 (c : Dev nD) : iprop(at_ (rt c) sA2 fullShare (A m c) ∗ emp) ⊢ pay m (rt c) 12 false :=
  (drop_emp _).trans (Entails.of_eq (by
    show _ = at_ (rt c) sA2 fullShare (A m (lf (rt c)))
    rw [lf_rt]))
theorem pay_gather3 (c : Dev nD) : iprop(at_ (op c) sA3 fullShare (A m c) ∗ emp) ⊢ pay m (op c) 13 false :=
  (drop_emp _).trans (Entails.of_eq (by
    show _ = at_ (op c) sA3 fullShare (A m (op (op c)))
    rw [op_op]))

/-! ## The names of the values -/

theorem fold_cos : k0_pay10 (F := F) k0_pay6 (iota .tc S1024x128 32 [1] iota_S1024x128_d1_w32) 2#32 k0_pay7 k0_pay8 (Scalar.cmpi .sgt 2#32 0#32) = cosV := rfl
theorem fold_sin : k0_pay11 (F := F) k0_pay6 (iota .tc S1024x128 32 [1] iota_S1024x128_d1_w32) 2#32 k0_pay7 k0_pay8 (Scalar.cmpi .sgt 2#32 0#32) = sinV := rfl
theorem fold_q (c : Dev nD) : k0_pay15 (k0_pay3 (a0 m c) (a1 m c)) cosV sinV k0_pay12 (k0_pay13 (k0_pay3 (a0 m c) (a1 m c))) (k0_pay14 (k0_pay3 (a0 m c) (a1 m c))) = Qv m c := rfl
theorem fold_k (c : Dev nD) : k0_pay16 (k0_pay4 (a0 m c) (a2 m c)) cosV sinV = Kv m c := rfl
theorem fold_v (c : Dev nD) : k0_pay5 (a0 m c) (a3 m c) = Vv m c := rfl
theorem fold_o (c : Dev nD) : k0_pay2 (a4 m c) = Ov m c := rfl
theorem fold_q0 (c : Dev nD) : mQ.view.readAt (Elt F) (Rect.unit (s := S1024x1024) (k0_off1 c) S256x1024.size (k0_off1_inb c)).toLoadRect (Qv m c) = q0 m c := rfl
theorem fold_q1 (c : Dev nD) : mQ.view.readAt (Elt F) (Rect.unit (s := S1024x1024) (k0_off2 c 1#32) S256x1024.size (k0_off2_inb c 0)).toLoadRect (Qv m c) = q1 m c := rfl
theorem fold_q2 (c : Dev nD) : mQ.view.readAt (Elt F) (Rect.unit (s := S1024x1024) (k0_off2 c 2#32) S256x1024.size (k0_off2_inb c 1)).toLoadRect (Qv m c) = q2 m c := rfl
theorem fold_q3 (c : Dev nD) : mQ.view.readAt (Elt F) (Rect.unit (s := S1024x1024) (k0_off2 c 3#32) S256x1024.size (k0_off2_inb c 2)).toLoadRect (Qv m c) = q3 m c := rfl
theorem fold_S0 (c : Dev nD) : k0_pay26 (Ov m c) (Vv m c) (Kv m c) (q0 m c) (k0_pay17 (Vv m c) (Kv m c) (q0 m c)) (k0_pay18 (Vv m c) (Kv m c) (q0 m c)) (k0_pay22 (k0_pay20 (Kv m c) (q0 m c)) (k0_pay21 (Vv m c) (Kv m c) (q0 m c))) (k0_pay23 (Vv m c) (Kv m c) (q0 m c)) (k0_pay24 (Vv m c) (Kv m c) (q0 m c)) (k0_pay25 (Vv m c) (Kv m c) (q0 m c)) = S0 m c := rfl
theorem fold_S1 (c : Dev nD) : k0_pay39 (Ov m c) (Vv m c) (k0_pay30 (k0_pay28 (Vv m c) (Kv m c) (q1 m c)) (k0_pay29 (Kv m c) (q1 m c))) (k0_pay31 (Vv m c) (Kv m c) (q1 m c)) (k0_pay32 (Vv m c) (Kv m c) (q1 m c)) (k0_pay33 (Vv m c) (Kv m c) (q1 m c)) (k0_pay35 (Vv m c) (Kv m c) (k0_pay34 (q1 m c))) (k0_pay36 (Vv m c) (Kv m c) (q1 m c)) (k0_pay37 (Vv m c) (Kv m c) (q1 m c)) (k0_pay38 (Kv m c) (q1 m c)) (S0 m (lf c)) = S1 m c := rfl
theorem fold_S2 (c : Dev nD) : k0_pay52 (Ov m c) (Vv m c) (Kv m c) (q2 m c) (k0_pay42 (Vv m c) (k0_pay40 (Kv m c) (q2 m c)) (k0_pay41 (Kv m c) (q2 m c))) (k0_pay43 (Vv m c) (Kv m c) (q2 m c)) (k0_pay44 (Vv m c) (Kv m c) (q2 m c)) (k0_pay48 (k0_pay46 (Kv m c) (q2 m c)) (k0_pay47 (Vv m c) (Kv m c) (q2 m c))) (k0_pay49 (Vv m c) (Kv m c) (q2 m c)) (k0_pay50 (Vv m c) (Kv m c) (q2 m c)) (k0_pay51 (Vv m c) (Kv m c) (q2 m c)) (S1 m (lf c)) = S2 m c := rfl
theorem fold_V (c : Dev nD) : k0_pay67 (Ov m c) (Vv m c) (Kv m c) (q3 m c) (k0_pay55 (Vv m c) (k0_pay53 (Kv m c) (q3 m c)) (k0_pay54 (Kv m c) (q3 m c))) (k0_pay56 (Vv m c) (Kv m c) (q3 m c)) (k0_pay57 (Vv m c) (Kv m c) (q3 m c)) (k0_pay61 (Vv m c) (k0_pay58 (Kv m c) (q3 m c)) (k0_pay59 (Kv m c) (q3 m c)) k0_pay60) (k0_pay62 (Vv m c) (Kv m c) (q3 m c)) (k0_pay63 (Vv m c) (Kv m c) (q3 m c)) (k0_pay64 (Kv m c) (q3 m c)) (k0_pay65 (Kv m c) (q3 m c)) (k0_pay66 (Vv m c)) (constant S256x128 .f32 0x00000000#32) (S2 m (lf c)) = V m c := rfl
theorem fold_A (c : Dev nD) : k0_pay68 (V m c) = A m c := rfl

/-! ## The run -/

/-- What device `c` starts with: its positions, its rights to pay, its credits, its buffers. -/
def before (K : Dev nD × Fin 14 → ℕ) (W : Waits sig Unit) (c : Dev nD) : sProp 𝕄 :=
  iprop(records m K ∗ levAts L lv ∗ owes (c : Thread nD τ) (owedN c 10) W
    ∗ (atPos ER (kcell c 0) 0 ∅ 0 ∗ atPos ER (kcell c 1) 0 ∅ 0
      ∗ atPos ER (kcell c 2) 0 ∅ 0 ∗ atPos ER (kcell c 3) 0 ∅ 0 ∗ atPos ER (kcell c 4) 0 ∅ 0
      ∗ atPos ER (kcell c 5) 0 ∅ 0 ∗ atPos ER (kcell c 6) 0 ∅ 0 ∗ atPos ER (kcell c 7) 0 ∅ 0
      ∗ atPos ER (kcell c 8) 0 ∅ 0 ∗ atPos ER (kcell c 9) 0 ∅ 0 ∗ atPos ER (kcell c 10) 0 ∅ 0
      ∗ atPos ER (kcell c 11) 0 ∅ 0 ∗ atPos ER (kcell c 12) 0 ∅ 0 ∗ atPos ER (kcell c 13) 0 ∅ 0)
    ∗ (payTok c (lastPay 9) ∗ payTok c (lastPay 8) ∗ payTok c (lastPay 7) ∗ payTok c (lastPay 6) ∗ payTok c (lastPay 5)
      ∗ payTok c (lastPay 4) ∗ payTok c (lastPay 3) ∗ payTok c (lastPay 2) ∗ payTok c (lastPay 1) ∗ payTok c (lastPay 0)
      ∗ payTok c 10 ∗ payTok c 11 ∗ payTok c 12 ∗ payTok c 13 ∗ payTok c 14 ∗ payTok c 15)
    ∗ (cred (tallyAt (kcell c 0) () 2) ∗ cred (tallyAt (kcell c 1) () 2)
      ∗ cred (tallyAt (kcell c 5) () N) ∗ cred (tallyAt (kcell c 6) () N) ∗ cred (tallyAt (kcell c 7) () N)
      ∗ cred (tallyAt (kcell c 11) () N) ∗ cred (tallyAt (kcell c 12) () N) ∗ cred (tallyAt (kcell c 13) () N))
    ∗ ((((c : Thread nD τ).loc cc0_stg0_0) ↦{fullShare} a0 m c) ∗ (((c : Thread nD τ).loc cc0_stg1_0) ↦{fullShare} a1 m c)
      ∗ (((c : Thread nD τ).loc cc0_stg2_0) ↦{fullShare} a2 m c) ∗ (((c : Thread nD τ).loc cc0_stg3_0) ↦{fullShare} a3 m c)
      ∗ (((c : Thread nD τ).loc cc0_stg4_0) ↦{fullShare} a4 m c) ∗ anyWhole c cc0_stg5_0)
    ∗ (anyWhole c cc0_scratch0 ∗ anyWhole c cc0_scratch1 ∗ anyWhole c cc0_scratch2 ∗ anyWhole c cc0_scratch3))

/-- What it ends with: the result, its buffers, every semaphore at zero, nothing owed. -/
def after (c : Dev nD) : sProp 𝕄 :=
  iprop((∃ W, owes (c : Thread nD τ) 0 W)
    ∗ (semVal (kcell c 0) 0 ∗ semVal (kcell c 1) 0
      ∗ semVal (kcell c 2) 0 ∗ semVal (kcell c 3) 0 ∗ semVal (kcell c 4) 0
      ∗ semVal (kcell c 5) 0 ∗ semVal (kcell c 6) 0 ∗ semVal (kcell c 7) 0
      ∗ semVal (kcell c 8) 0 ∗ semVal (kcell c 9) 0 ∗ semVal (kcell c 10) 0
      ∗ semVal (kcell c 11) 0 ∗ semVal (kcell c 12) 0 ∗ semVal (kcell c 13) 0)
    ∗ ((((c : Thread nD τ).loc cc0_stg0_0) ↦{fullShare} a0 m c) ∗ (((c : Thread nD τ).loc cc0_stg1_0) ↦{fullShare} a1 m c)
      ∗ (((c : Thread nD τ).loc cc0_stg2_0) ↦{fullShare} a2 m c) ∗ (((c : Thread nD τ).loc cc0_stg3_0) ↦{fullShare} a3 m c)
      ∗ (((c : Thread nD τ).loc cc0_stg4_0) ↦{fullShare} a4 m c) ∗ (((c : Thread nD τ).loc cc0_stg5_0) ↦{fullShare} OUT m))
    ∗ (anyWhole c cc0_scratch0 ∗ anyWhole c cc0_scratch1 ∗ anyWhole c cc0_scratch2 ∗ anyWhole c cc0_scratch3))

set_option maxRecDepth 8000 in
set_option maxHeartbeats 4000000 in
/-- Device `c`'s run. -/
theorem sound_body (K : Dev nD × Fin 14 → ℕ) (W : Waits sig Unit) (c : Dev nD) (Kt : PUnit → sProp 𝕄) :
    iprop(before m K W c ∗ (after m c -∗ Kt ⟨⟩))
      ⊢ wp frame (wpE (defs₀ (F := F)) 𝒱₀ c none) Set.univ
        (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scoped0) Kt := by
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel
  simp only [semSignalWord, semWaitWord, Prog.lift, Prog.bind_op, Prog.bind_ret, Prog.pure_eq_ret, wp_deviceId]
  unfold before anyWhole
  iintro ⟨⟨#HR, #HL, HO, ⟨P0, P1, P2, P3, P4, P5, P6, P7, P8, P9, P10, P11, P12, P13⟩,
    ⟨T0, T1, T2, T3, T4, T5, T6, T7, T8, T9, U0, U1, U2, U3, U4, U5⟩, ⟨C0, C1, C5, C6, C7, C11, C12, C13⟩,
    ⟨HX, HWq, HWk, HWv, HWo, ⟨%fo, HOut⟩⟩, ⟨⟨%fq, HQ⟩, HSs, HRs, HAs⟩⟩, Hk⟩
  ihave HSs := (split_send c) $$ HSs
  icases HSs with ⟨HS0, HS1, HS2⟩
  ihave HRs := (split_recv c) $$ HRs
  icases HRs with ⟨HR0, HR1, HR2⟩
  ihave HAs := (split_gather c) $$ HAs
  icases HAs with ⟨HA0, HA1, HA2, HA3⟩
  -- the two signals: the slots the neighbours write go to them
  iapply (step_signal m K c 9 (dev1_eq c) rfl rfl (Or.inr (by decide))) $$ [HO T0 HR0 HR1 HR2 HA2]
  · isplitr; · iexact HR
    isplitl [HO]; · iexact HO
    isplitl [T0]; · iexact T0
    iapply (pay_left m c)
    isplitl [HR0]; · iexact HR0
    isplitl [HR1]; · iexact HR1
    isplitl [HR2]; · iexact HR2
    iexact HA2
  iintro HO
  iapply (step_signal m K c 8 (dev2_eq c) rfl rfl (Or.inl rfl)) $$ [HO T1 HA1 HA3]
  · isplitr; · iexact HR
    isplitl [HO]; · iexact HO
    isplitl [T1]; · iexact T1
    iapply (pay_right m c)
    isplitl [HA1]; · iexact HA1
    iexact HA3
  iintro HO
  -- the staged arguments, and the queries
  iapply (wp_load 𝒱₀ (c : Thread nD τ) none Set.univ (m := mX) (Finset.subset_univ _)) $$ HX; iintro HX
  rw [read_x]
  iapply (wp_load 𝒱₀ (c : Thread nD τ) none Set.univ (m := mWo) (Finset.subset_univ _)) $$ HWo; iintro HWo
  rw [read_wo]
  iapply (wp_load 𝒱₀ (c : Thread nD τ) none Set.univ (m := mWq) (Finset.subset_univ _)) $$ HWq; iintro HWq
  rw [read_wq]
  iapply (wp_load 𝒱₀ (c : Thread nD τ) none Set.univ (m := mWk) (Finset.subset_univ _)) $$ HWk; iintro HWk
  rw [read_wk]
  iapply (wp_load 𝒱₀ (c : Thread nD τ) none Set.univ (m := mWv) (Finset.subset_univ _)) $$ HWv; iintro HWv
  rw [read_wv]
  iapply (wp_load 𝒱₀ (c : Thread nD τ) none Set.univ (m := mQ) (Finset.subset_univ _)) $$ HQ; iintro HQ
  iapply (wp_store 𝒱₀ (c : Thread nD τ) none Set.univ (m := mQ) (r := rW) (Mk := Finset.univ) (Finset.subset_univ _)) $$ HQ; iintro HQ
  rw [write_q]
  rw [fold_cos, fold_sin, fold_q, fold_k, fold_v, fold_o]
  -- the first block
  iapply (wp_load 𝒱₀ (c : Thread nD τ) none Set.univ (m := mQ) (Finset.subset_univ _)) $$ HQ; iintro HQ
  rw [fold_q0]
  rw [fold_S0]
  ihave HS0 := (any_elim c sS0) $$ HS0
  icases HS0 with ⟨%XHS0, HS0⟩
  iapply (step_load c (fun _ => rfl) fullShare XHS0) $$ HS0; iintro HS0
  iapply (step_store c (fun _ => rfl) XHS0) $$ HS0; iintro HS0
  ihave HS0 := (Entails.of_eq (show owns (c : Thread nD τ) sS0 fullShare (S0 m c) = at_ c sS0 fullShare (S0 m c) from rfl)) $$ HS0
  -- the barrier: the neighbours' slots
  iapply (step_wait m K c 0 8 rfl (by decide) (by decide) (by intro i hi; interval_cases i <;> decide)) $$ [C0 HO P0]
  · isplitr; · iexact HR
    isplitr; · iexact HL
    isplitl [C0]; · iexact C0
    isplitl [HO]; · iexact HO
    iexact P0
  iintro ⟨HO, P0, HF, HT⟩
  ihave HF := (show pay m c 0 false ⊢ iprop(any (lf c) sA1 ∗ any (lf c) sA3) from Entails.of_eq rfl) $$ HF
  ihave HT := (show pay m c 0 true ⊢ iprop(any (rt c) sR0 ∗ any (rt c) sR1 ∗ any (rt c) sR2 ∗ any (rt c) sA2) from Entails.of_eq rfl) $$ HT
  icases HF with ⟨HlA1, HlA3⟩
  icases HT with ⟨HrR0, HrR1, HrR2, HrA2⟩
  -- the reduce-scatter
  iapply (step_send m K c (src := sS0) (dst := sR0) 7 10 fullShare (S0 m c) iprop(any (lf c) sA3) (dev3_eq c) rfl rfl (by decide) (by decide) (by decide) rfl (credit _) (at_any c sS0 _) (pay_first m c)) $$ [HS0 HrR0 HlA3 HO T2 U0]
  · isplitr; · iexact HR
    isplitl [HS0]; · iexact HS0
    isplitl [HrR0]; · iexact HrR0
    isplitl [HlA3]; · iexact HlA3
    isplitl [HO]; · iexact HO
    isplitl [T2]; · iexact T2
    iexact U0
  iintro ⟨C2, HO⟩
  iapply (wp_load 𝒱₀ (c : Thread nD τ) none Set.univ (m := mQ) (Finset.subset_univ _)) $$ HQ; iintro HQ
  rw [fold_q1]
  iapply (step_waitDma m K c 5 7 rfl (by decide) (credit _) (by intro i hi; interval_cases i <;> decide)) $$ [C5 HO P5]
  · isplitr; · iexact HR
    isplitr; · iexact HL
    isplitl [C5]; · iexact C5
    isplitl [HO]; · iexact HO
    iexact P5
  iintro ⟨HO, P5, HR0⟩
  ihave HR0 := (show pay m c 5 false ⊢ iprop(at_ c sR0 fullShare (S0 m (lf c)) ∗ any (op c) sA3) from Entails.of_eq rfl) $$ HR0
  icases HR0 with ⟨HR0, HoA3⟩
  ihave HR0 := (Entails.of_eq (show at_ c sR0 fullShare (S0 m (lf c)) = owns (c : Thread nD τ) sR0 fullShare (S0 m (lf c)) from rfl)) $$ HR0
  iapply (step_load c (fun _ => rfl) fullShare (S0 m (lf c))) $$ HR0; iintro HR0
  rw [fold_S1]
  ihave HS1 := (any_elim c sS1) $$ HS1
  icases HS1 with ⟨%XHS1, HS1⟩
  iapply (step_load c (fun _ => rfl) fullShare XHS1) $$ HS1; iintro HS1
  iapply (step_store c (fun _ => rfl) XHS1) $$ HS1; iintro HS1
  ihave HS1 := (Entails.of_eq (show owns (c : Thread nD τ) sS1 fullShare (S1 m c) = at_ c sS1 fullShare (S1 m c) from rfl)) $$ HS1
  iapply (step_send m K c (src := sS1) (dst := sR1) 6 11 fullShare (S1 m c) iprop(emp) (dev4_eq c) rfl rfl (by decide) (by decide) (by decide) rfl (credit _) (at_any c sS1 _) (pay_second m c)) $$ [HS1 HrR1 HO T3 U1]
  · isplitr; · iexact HR
    isplitl [HS1]; · iexact HS1
    isplitl [HrR1]; · iexact HrR1
    isplitr; · iempintro
    isplitl [HO]; · iexact HO
    isplitl [T3]; · iexact T3
    iexact U1
  iintro ⟨C3, HO⟩
  iapply (wp_load 𝒱₀ (c : Thread nD τ) none Set.univ (m := mQ) (Finset.subset_univ _)) $$ HQ; iintro HQ
  rw [fold_q2]
  iapply (step_waitDma m K c 6 6 rfl (by decide) (credit _) (by intro i hi; interval_cases i <;> decide)) $$ [C6 HO P6]
  · isplitr; · iexact HR
    isplitr; · iexact HL
    isplitl [C6]; · iexact C6
    isplitl [HO]; · iexact HO
    iexact P6
  iintro ⟨HO, P6, HR1⟩
  ihave HR1 := (show pay m c 6 false ⊢ at_ c sR1 fullShare (S1 m (lf c)) from Entails.of_eq rfl) $$ HR1
  ihave HR1 := (Entails.of_eq (show at_ c sR1 fullShare (S1 m (lf c)) = owns (c : Thread nD τ) sR1 fullShare (S1 m (lf c)) from rfl)) $$ HR1
  iapply (step_load c (fun _ => rfl) fullShare (S1 m (lf c))) $$ HR1; iintro HR1
  rw [fold_S2]
  ihave HS2 := (any_elim c sS2) $$ HS2
  icases HS2 with ⟨%XHS2, HS2⟩
  iapply (step_load c (fun _ => rfl) fullShare XHS2) $$ HS2; iintro HS2
  iapply (step_store c (fun _ => rfl) XHS2) $$ HS2; iintro HS2
  ihave HS2 := (Entails.of_eq (show owns (c : Thread nD τ) sS2 fullShare (S2 m c) = at_ c sS2 fullShare (S2 m c) from rfl)) $$ HS2
  iapply (step_send m K c (src := sS2) (dst := sR2) 5 12 fullShare (S2 m c) iprop(emp) (dev5_eq c) rfl rfl (by decide) (by decide) (by decide) rfl (credit _) (at_any c sS2 _) (pay_third m c)) $$ [HS2 HrR2 HO T4 U2]
  · isplitr; · iexact HR
    isplitl [HS2]; · iexact HS2
    isplitl [HrR2]; · iexact HrR2
    isplitr; · iempintro
    isplitl [HO]; · iexact HO
    isplitl [T4]; · iexact T4
    iexact U2
  iintro ⟨C4, HO⟩
  iapply (wp_load 𝒱₀ (c : Thread nD τ) none Set.univ (m := mQ) (Finset.subset_univ _)) $$ HQ; iintro HQ
  rw [fold_q3]
  iapply (step_waitDma m K c 7 5 rfl (by decide) (credit _) (by intro i hi; interval_cases i <;> decide)) $$ [C7 HO P7]
  · isplitr; · iexact HR
    isplitr; · iexact HL
    isplitl [C7]; · iexact C7
    isplitl [HO]; · iexact HO
    iexact P7
  iintro ⟨HO, P7, HR2⟩
  ihave HR2 := (show pay m c 7 false ⊢ at_ c sR2 fullShare (S2 m (lf c)) from Entails.of_eq rfl) $$ HR2
  ihave HR2 := (Entails.of_eq (show at_ c sR2 fullShare (S2 m (lf c)) = owns (c : Thread nD τ) sR2 fullShare (S2 m (lf c)) from rfl)) $$ HR2
  iapply (step_load c (fun _ => rfl) fullShare (S2 m (lf c))) $$ HR2; iintro HR2
  -- the finished rows: into the gather buffer and into the result
  rw [fold_V, fold_A]
  ihave HA0 := (any_elim c sA0) $$ HA0
  icases HA0 with ⟨%XHA0, HA0⟩
  iapply (step_load c (fun _ => rfl) fullShare XHA0) $$ HA0; iintro HA0
  iapply (step_store c (fun _ => rfl) XHA0) $$ HA0; iintro HA0
  ihave HA0 := (Entails.of_eq (show owns (c : Thread nD τ) sA0 fullShare (A m c) = at_ c sA0 fullShare (A m c) from rfl)) $$ HA0
  iapply (wp_load 𝒱₀ (c : Thread nD τ) none Set.univ (m := mO) (Finset.subset_univ _)) $$ HOut; iintro HOut
  iapply (wp_store 𝒱₀ (c : Thread nD τ) none Set.univ (m := mO) (r := Rect.unit (s := S1x1024x1024) (k0_off3 c 1#32) S1x256x1024.size (k0_off3_inb c 0)) (Mk := Finset.univ) (Finset.subset_univ _)) $$ HOut; iintro HOut
  ihave HA0 := (at_thirds c sA0 (A m c)) $$ HA0
  icases HA0 with ⟨HA00, HA01, HA02⟩
  -- the all-gather
  iapply (step_send m K c (src := sA0) (dst := sA1) 4 13 sh0 (A m c) iprop(emp) (dev6_eq c) rfl rfl (by decide) (by decide) (by decide) rfl (credit _) (Entails.of_eq rfl) (pay_gather1 m c)) $$ [HA00 HlA1 HO T5 U3]
  · isplitr; · iexact HR
    isplitl [HA00]; · iexact HA00
    isplitl [HlA1]; · iexact HlA1
    isplitr; · iempintro
    isplitl [HO]; · iexact HO
    isplitl [T5]; · iexact T5
    iexact U3
  iintro ⟨C8, HO⟩
  iapply (step_send m K c (src := sA0) (dst := sA2) 3 14 sh1 (A m c) iprop(emp) (dev7_eq c) rfl rfl (by decide) (by decide) (by decide) rfl (credit _) (Entails.of_eq rfl) (pay_gather2 m c)) $$ [HA01 HrA2 HO T6 U4]
  · isplitr; · iexact HR
    isplitl [HA01]; · iexact HA01
    isplitl [HrA2]; · iexact HrA2
    isplitr; · iempintro
    isplitl [HO]; · iexact HO
    isplitl [T6]; · iexact T6
    iexact U4
  iintro ⟨C9, HO⟩
  iapply (step_send m K c (src := sA0) (dst := sA3) 2 15 sh2 (A m c) iprop(emp) (dev8_eq c) rfl rfl (by decide) (by decide) (by decide) rfl (credit _) (Entails.of_eq rfl) (pay_gather3 m c)) $$ [HA02 HoA3 HO T7 U5]
  · isplitr; · iexact HR
    isplitl [HA02]; · iexact HA02
    isplitl [HoA3]; · iexact HoA3
    isplitr; · iempintro
    isplitl [HO]; · iexact HO
    isplitl [T7]; · iexact T7
    iexact U5
  iintro ⟨C10, HO⟩
  iapply (step_waitDma m K c 11 2 rfl (by decide) (credit _) (by intro i hi; interval_cases i <;> decide)) $$ [C11 HO P11]
  · isplitr; · iexact HR
    isplitr; · iexact HL
    isplitl [C11]; · iexact C11
    isplitl [HO]; · iexact HO
    iexact P11
  iintro ⟨HO, P11, HA1⟩
  ihave HA1 := (show pay m c 11 false ⊢ at_ c sA1 fullShare (A m (rt c)) from Entails.of_eq rfl) $$ HA1
  ihave HA1 := (Entails.of_eq (show at_ c sA1 fullShare (A m (rt c)) = owns (c : Thread nD τ) sA1 fullShare (A m (rt c)) from rfl)) $$ HA1
  iapply (step_load c (fun _ => rfl) fullShare (A m (rt c))) $$ HA1; iintro HA1
  iapply (wp_load 𝒱₀ (c : Thread nD τ) none Set.univ (m := mO) (Finset.subset_univ _)) $$ HOut; iintro HOut
  iapply (wp_store 𝒱₀ (c : Thread nD τ) none Set.univ (m := mO) (r := Rect.unit (s := S1x1024x1024) (k0_off3 c 2#32) S1x256x1024.size (k0_off3_inb c 1)) (Mk := Finset.univ) (Finset.subset_univ _)) $$ HOut; iintro HOut
  iapply (step_waitDma m K c 12 2 rfl (by decide) (credit _) (by intro i hi; interval_cases i <;> decide)) $$ [C12 HO P12]
  · isplitr; · iexact HR
    isplitr; · iexact HL
    isplitl [C12]; · iexact C12
    isplitl [HO]; · iexact HO
    iexact P12
  iintro ⟨HO, P12, HA2⟩
  ihave HA2 := (show pay m c 12 false ⊢ at_ c sA2 fullShare (A m (lf c)) from Entails.of_eq rfl) $$ HA2
  ihave HA2 := (Entails.of_eq (show at_ c sA2 fullShare (A m (lf c)) = owns (c : Thread nD τ) sA2 fullShare (A m (lf c)) from rfl)) $$ HA2
  iapply (step_load c (fun _ => rfl) fullShare (A m (lf c))) $$ HA2; iintro HA2
  iapply (wp_load 𝒱₀ (c : Thread nD τ) none Set.univ (m := mO) (Finset.subset_univ _)) $$ HOut; iintro HOut
  iapply (wp_store 𝒱₀ (c : Thread nD τ) none Set.univ (m := mO) (r := Rect.unit (s := S1x1024x1024) (k0_off4 c) S1x256x1024.size (k0_off4_inb c)) (Mk := Finset.univ) (Finset.subset_univ _)) $$ HOut; iintro HOut
  iapply (step_waitDma m K c 13 2 rfl (by decide) (credit _) (by intro i hi; interval_cases i <;> decide)) $$ [C13 HO P13]
  · isplitr; · iexact HR
    isplitr; · iexact HL
    isplitl [C13]; · iexact C13
    isplitl [HO]; · iexact HO
    iexact P13
  iintro ⟨HO, P13, HA3⟩
  ihave HA3 := (show pay m c 13 false ⊢ at_ c sA3 fullShare (A m (op c)) from Entails.of_eq rfl) $$ HA3
  ihave HA3 := (Entails.of_eq (show at_ c sA3 fullShare (A m (op c)) = owns (c : Thread nD τ) sA3 fullShare (A m (op c)) from rfl)) $$ HA3
  iapply (step_load c (fun _ => rfl) fullShare (A m (op c))) $$ HA3; iintro HA3
  iapply (wp_load 𝒱₀ (c : Thread nD τ) none Set.univ (m := mO) (Finset.subset_univ _)) $$ HOut; iintro HOut
  iapply (wp_store 𝒱₀ (c : Thread nD τ) none Set.univ (m := mO) (r := Rect.unit (s := S1x1024x1024) (k0_off3 c 3#32) S1x256x1024.size (k0_off3_inb c 2)) (Mk := Finset.univ) (Finset.subset_univ _)) $$ HOut; iintro HOut
  ihave HOut := (Entails.of_eq (show ((((c : Thread nD τ).loc cc0_stg5_0) ↦{fullShare} _) : sProp 𝕄) = (((c : Thread nD τ).loc cc0_stg5_0) ↦{fullShare} OUT m) from
    congrArg (fun g => ((((c : Thread nD τ).loc cc0_stg5_0) ↦{fullShare} g) : sProp 𝕄)) (out_writes m c fo))) $$ HOut
  -- the sources come back
  iapply (step_waitDma m K c 2 2 rfl (by decide) (credit _) (by intro i hi; interval_cases i <;> decide)) $$ [C2 HO P2]
  · isplitr; · iexact HR
    isplitr; · iexact HL
    isplitl [C2]; · iexact C2
    isplitl [HO]; · iexact HO
    iexact P2
  iintro ⟨HO, P2, HS0⟩
  ihave HS0 := (show pay m c 2 false ⊢ any c sS0 from Entails.of_eq rfl) $$ HS0
  iapply (step_waitDma m K c 3 2 rfl (by decide) (credit _) (by intro i hi; interval_cases i <;> decide)) $$ [C3 HO P3]
  · isplitr; · iexact HR
    isplitr; · iexact HL
    isplitl [C3]; · iexact C3
    isplitl [HO]; · iexact HO
    iexact P3
  iintro ⟨HO, P3, HS1⟩
  ihave HS1 := (show pay m c 3 false ⊢ any c sS1 from Entails.of_eq rfl) $$ HS1
  iapply (step_waitDma m K c 4 2 rfl (by decide) (credit _) (by intro i hi; interval_cases i <;> decide)) $$ [C4 HO P4]
  · isplitr; · iexact HR
    isplitr; · iexact HL
    isplitl [C4]; · iexact C4
    isplitl [HO]; · iexact HO
    iexact P4
  iintro ⟨HO, P4, HS2⟩
  ihave HS2 := (show pay m c 4 false ⊢ any c sS2 from Entails.of_eq rfl) $$ HS2
  iapply (step_waitDma m K c 8 2 rfl (by decide) (credit _) (by intro i hi; interval_cases i <;> decide)) $$ [C8 HO P8]
  · isplitr; · iexact HR
    isplitr; · iexact HL
    isplitl [C8]; · iexact C8
    isplitl [HO]; · iexact HO
    iexact P8
  iintro ⟨HO, P8, HA00⟩
  ihave HA00 := (show pay m c 8 false ⊢ at_ c sA0 sh0 (A m c) from Entails.of_eq rfl) $$ HA00
  iapply (step_waitDma m K c 9 2 rfl (by decide) (credit _) (by intro i hi; interval_cases i <;> decide)) $$ [C9 HO P9]
  · isplitr; · iexact HR
    isplitr; · iexact HL
    isplitl [C9]; · iexact C9
    isplitl [HO]; · iexact HO
    iexact P9
  iintro ⟨HO, P9, HA01⟩
  ihave HA01 := (show pay m c 9 false ⊢ at_ c sA0 sh1 (A m c) from Entails.of_eq rfl) $$ HA01
  iapply (step_waitDma m K c 10 2 rfl (by decide) (credit _) (by intro i hi; interval_cases i <;> decide)) $$ [C10 HO P10]
  · isplitr; · iexact HR
    isplitr; · iexact HL
    isplitl [C10]; · iexact C10
    isplitl [HO]; · iexact HO
    iexact P10
  iintro ⟨HO, P10, HA02⟩
  ihave HA02 := (show pay m c 10 false ⊢ at_ c sA0 sh2 (A m c) from Entails.of_eq rfl) $$ HA02
  -- the exit semaphore
  iapply (step_signal m K c 1 (dev9_eq c) rfl rfl (Or.inr (by decide))) $$ [HO T8]
  · isplitr; · iexact HR
    isplitl [HO]; · iexact HO
    isplitl [T8]; · iexact T8
    iapply (show iprop(emp) ⊢ pay m (dest (lastPay 1) c) (cix (lastPay 1)) (dty (lastPay 1)) from Entails.of_eq rfl); iempintro
  iintro HO
  iapply (step_signal m K c 0 (dev10_eq c) rfl rfl (Or.inr (by decide))) $$ [HO T9]
  · isplitr; · iexact HR
    isplitl [HO]; · iexact HO
    isplitl [T9]; · iexact T9
    iapply (show iprop(emp) ⊢ pay m (dest (lastPay 0) c) (cix (lastPay 0)) (dty (lastPay 0)) from Entails.of_eq rfl); iempintro
  iintro HO
  iapply (step_wait m K c 1 0 rfl (by decide) (by decide) (by intro i hi; exact absurd hi (Nat.not_lt_zero i))) $$ [C1 HO P1]
  · isplitr; · iexact HR
    isplitr; · iexact HL
    isplitl [C1]; · iexact C1
    isplitl [HO]; · iexact HO
    iexact P1
  iintro ⟨HO, P1, -, -⟩
  -- every cell closes
  imod (step_close m K c 0) $$ [P0] with P0
  · isplitr; · iexact HR
    iexact P0
  imod (step_close m K c 1) $$ [P1] with P1
  · isplitr; · iexact HR
    iexact P1
  imod (step_close m K c 2) $$ [P2] with P2
  · isplitr; · iexact HR
    iexact P2
  imod (step_close m K c 3) $$ [P3] with P3
  · isplitr; · iexact HR
    iexact P3
  imod (step_close m K c 4) $$ [P4] with P4
  · isplitr; · iexact HR
    iexact P4
  imod (step_close m K c 5) $$ [P5] with P5
  · isplitr; · iexact HR
    iexact P5
  imod (step_close m K c 6) $$ [P6] with P6
  · isplitr; · iexact HR
    iexact P6
  imod (step_close m K c 7) $$ [P7] with P7
  · isplitr; · iexact HR
    iexact P7
  imod (step_close m K c 8) $$ [P8] with P8
  · isplitr; · iexact HR
    iexact P8
  imod (step_close m K c 9) $$ [P9] with P9
  · isplitr; · iexact HR
    iexact P9
  imod (step_close m K c 10) $$ [P10] with P10
  · isplitr; · iexact HR
    iexact P10
  imod (step_close m K c 11) $$ [P11] with P11
  · isplitr; · iexact HR
    iexact P11
  imod (step_close m K c 12) $$ [P12] with P12
  · isplitr; · iexact HR
    iexact P12
  imod (step_close m K c 13) $$ [P13] with P13
  · isplitr; · iexact HR
    iexact P13
  rw [wp_ret]; imodintro
  iapply Hk
  unfold after
  isplitl [HO]; · iexists _; iexact HO
  isplitl [P0 P1 P2 P3 P4 P5 P6 P7 P8 P9 P10 P11 P12 P13]
  · isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    iexact P13
  isplitl [HX HWq HWk HWv HWo HOut]
  · isplitl [HX]; · iexact HX
    isplitl [HWq]; · iexact HWq
    isplitl [HWk]; · iexact HWk
    isplitl [HWv]; · iexact HWv
    isplitl [HWo]; · iexact HWo
    iexact HOut
  isplitl [HQ]; · unfold anyWhole; iexists _; iexact HQ
  isplitl [HS0 HS1 HS2]
  · iapply (join_send c)
    isplitl [HS0]; · iexact HS0
    isplitl [HS1]; · iexact HS1
    iexact HS2
  isplitl [HR0 HR1 HR2]
  · iapply (join_recv c)
    isplitl [HR0]; · iapply (at_any c sR0 (S0 m (lf c))); unfold at_; iexact HR0
    isplitl [HR1]; · iapply (at_any c sR1 (S1 m (lf c))); unfold at_; iexact HR1
    iapply (at_any c sR2 (S2 m (lf c))); unfold at_; iexact HR2
  iapply (join_gather c)
  isplitl [HA00 HA01 HA02]
  · iapply (at_any c sA0 (A m c))
    iapply (at_thirds_join c sA0 (A m c))
    isplitl [HA00]; · iexact HA00
    isplitl [HA01]; · iexact HA01
    iexact HA02
  isplitl [HA1]; · iapply (at_any c sA1 (A m (rt c))); unfold at_; iexact HA1
  isplitl [HA2]; · iapply (at_any c sA2 (A m (lf c))); unfold at_; iexact HA2
  iapply (at_any c sA3 (A m (op c))); unfold at_; iexact HA3

end Cert.KernelIdeal.Run

end
-- ==== Proof.KI.Launch.lean ====
/-
# The launch

The four devices' bodies put together: the semaphores' rounds are allocated from the launch's counters, the rights to
pay are dealt to the devices that pay, and the launch's credits to the devices that wait. Every run of the program ends
with the result on every device, the arguments unchanged and every semaphore at zero.
-/
module

public import proofs.«01_k».proof.Proof.KI.Body
public import proofs.«01_k».proof.Proof.Gen.KernelIdeal.Launch
public import Idealize.ShloMosaic.Lib.Pipeline.CollectiveSegs

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F] [Named F]

local notation "𝕄" => MT nD τ sig Unit (Elt F) ℕ UU ℕ

variable (m : (ℓ : Loc nD τ sig) → Buf (Elt F) ℓ) (ρ : Dev nD → PrngReg)

/-- The launch's memory. -/
abbrev s₀ : MemSt nD τ sig (Elt F) := ⟨m, fun _ => 0, ρ⟩

theorem bigSep_fin14 (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ
theorem bigSep_fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-! ## What a device starts with -/

/-- Its positions at its own cells. -/
def poss (c : Dev nD) : sProp 𝕄 := bigSep Finset.univ fun k : Fin 14 => atPos ER (kcell c k) 0 ∅ 0
/-- Its rights to pay. -/
def pays (c : Dev nD) : sProp 𝕄 := bigSep Finset.univ fun t : Fin 16 => payTok c t
/-- What cell `k` is owed over all devices. -/
def due (k : Fin 14) : ℕ := ∑ i ∈ Finset.range 10, if cix (lastPay i) = k then amt k else 0
/-- Its credits. -/
def credits (c : Dev nD) : sProp 𝕄 := bigSep Finset.univ fun k : Fin 14 => cred (tallyAt (kcell c k) () (due k))
def ghost (K : Dev nD × Fin 14 → ℕ) (c : Dev nD) : sProp 𝕄 := iprop(records m K ∗ poss c ∗ pays c)
def start (c : Dev nD) : sProp 𝕄 := iprop((∃ K, ghost m K c) ∗ credits c ∗ levAts L lv)
def scratch (c : Dev nD) : sProp 𝕄 := iprop(anyWhole c cc0_scratch0 ∗ anyWhole c cc0_scratch1 ∗ anyWhole c cc0_scratch2 ∗ anyWhole c cc0_scratch3)
def zeros (c : Dev nD) : sProp 𝕄 := bigSep Finset.univ fun k : Fin 14 => semVal (kcell c k) 0

theorem due_bar : due 0 = 2 := by decide
theorem due_exit : due 1 = 2 := by decide
theorem due_recv (k : Fin 14) (h : k = 5 ∨ k = 6 ∨ k = 7 ∨ k = 11 ∨ k = 12 ∨ k = 13) : due k = N := by
  have ha : amt k = N := by rcases h with rfl | rfl | rfl | rfl | rfl | rfl <;> rfl
  have hj : ∃ j, j ∈ Finset.range 10 ∧ cix (lastPay j) = k ∧ ∀ i ∈ Finset.range 10, i ≠ j → ¬ cix (lastPay i) = k := by
    rcases h with rfl | rfl | rfl | rfl | rfl | rfl
    exacts [⟨7, by decide⟩, ⟨6, by decide⟩, ⟨5, by decide⟩, ⟨4, by decide⟩, ⟨3, by decide⟩, ⟨2, by decide⟩]
  obtain ⟨j, hm, hk, hne⟩ := hj
  unfold due
  rw [Finset.sum_eq_single_of_mem j hm fun i hi hij => if_neg (hne i hi hij), if_pos hk, ha]

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def Φ₀ (c : Dev nD) : sProp 𝕄 := iprop(start m c ∗ scratch c)
def Φ₁ (c : Dev nD) : sProp 𝕄 := iprop(scratch c ∗ zeros c)

/-- What a device owes at the launch. -/
def O₀ (c : Dev nD) : CellTallies nD τ sig Unit := owedN c 10

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => a0 m c
    | ⟨1, _⟩ => a1 m c
    | ⟨2, _⟩ => a2 m c
    | ⟨3, _⟩ => a3 m c
    | ⟨4, _⟩ => a4 m c
    | ⟨5, _⟩ => OUT m
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body at the pipeline's point -/

theorem fetch_0 (t : Fin cfg0.N) : (cfg0.win (0 : Fin 6)).fetch t = true := by rw [fin_N t]; rfl
theorem fetch_1 (t : Fin cfg0.N) : (cfg0.win (1 : Fin 6)).fetch t = true := by rw [fin_N t]; rfl
theorem fetch_2 (t : Fin cfg0.N) : (cfg0.win (2 : Fin 6)).fetch t = true := by rw [fin_N t]; rfl
theorem fetch_3 (t : Fin cfg0.N) : (cfg0.win (3 : Fin 6)).fetch t = true := by rw [fin_N t]; rfl
theorem fetch_4 (t : Fin cfg0.N) : (cfg0.win (4 : Fin 6)).fetch t = true := by rw [fin_N t]; rfl

theorem off_0 : (fun a => win0_0.kind.off (win0_0.index t₀ a) (win0_0.size a)) = fun _ => 0 := by funext a; fin_cases a <;> rfl
theorem fetched_0 (c : Dev nD) (d) : (dats m ρ 0 c).fetched (0 : Fin 6) t₀ d = a0 m c := by
  funext j
  have hm : (cfg0.win (0 : Fin 6)).moved (cfg0.grid.coords t₀) j = true := ((cfg0.win (0 : Fin 6)).moved_iff _ j).mpr fun a => (j a).isLt
  unfold Dat.fetched Window.fill
  rw [dif_pos hm]
  exact congrFun (Memref.read_access_unit_zero (Elt F) main_arg0 off_0 _ (a0 m c)) j
theorem staged_0 (c : Dev nD) (d) : (dats m ρ 0 c).before (0 : Fin 6) t₀ d = a0 m c := by
  unfold Dat.before; rw [if_pos (fetch_0 t₀)]; exact fetched_0 m ρ c d
theorem off_1 : (fun a => win0_1.kind.off (win0_1.index t₀ a) (win0_1.size a)) = fun _ => 0 := by funext a; fin_cases a <;> rfl
theorem fetched_1 (c : Dev nD) (d) : (dats m ρ 0 c).fetched (1 : Fin 6) t₀ d = a1 m c := by
  funext j
  have hm : (cfg0.win (1 : Fin 6)).moved (cfg0.grid.coords t₀) j = true := ((cfg0.win (1 : Fin 6)).moved_iff _ j).mpr fun a => (j a).isLt
  unfold Dat.fetched Window.fill
  rw [dif_pos hm]
  exact congrFun (Memref.read_access_unit_zero (Elt F) main_arg1 off_1 _ (a1 m c)) j
theorem staged_1 (c : Dev nD) (d) : (dats m ρ 0 c).before (1 : Fin 6) t₀ d = a1 m c := by
  unfold Dat.before; rw [if_pos (fetch_1 t₀)]; exact fetched_1 m ρ c d
theorem off_2 : (fun a => win0_2.kind.off (win0_2.index t₀ a) (win0_2.size a)) = fun _ => 0 := by funext a; fin_cases a <;> rfl
theorem fetched_2 (c : Dev nD) (d) : (dats m ρ 0 c).fetched (2 : Fin 6) t₀ d = a2 m c := by
  funext j
  have hm : (cfg0.win (2 : Fin 6)).moved (cfg0.grid.coords t₀) j = true := ((cfg0.win (2 : Fin 6)).moved_iff _ j).mpr fun a => (j a).isLt
  unfold Dat.fetched Window.fill
  rw [dif_pos hm]
  exact congrFun (Memref.read_access_unit_zero (Elt F) main_arg2 off_2 _ (a2 m c)) j
theorem staged_2 (c : Dev nD) (d) : (dats m ρ 0 c).before (2 : Fin 6) t₀ d = a2 m c := by
  unfold Dat.before; rw [if_pos (fetch_2 t₀)]; exact fetched_2 m ρ c d
theorem off_3 : (fun a => win0_3.kind.off (win0_3.index t₀ a) (win0_3.size a)) = fun _ => 0 := by funext a; fin_cases a <;> rfl
theorem fetched_3 (c : Dev nD) (d) : (dats m ρ 0 c).fetched (3 : Fin 6) t₀ d = a3 m c := by
  funext j
  have hm : (cfg0.win (3 : Fin 6)).moved (cfg0.grid.coords t₀) j = true := ((cfg0.win (3 : Fin 6)).moved_iff _ j).mpr fun a => (j a).isLt
  unfold Dat.fetched Window.fill
  rw [dif_pos hm]
  exact congrFun (Memref.read_access_unit_zero (Elt F) main_arg3 off_3 _ (a3 m c)) j
theorem staged_3 (c : Dev nD) (d) : (dats m ρ 0 c).before (3 : Fin 6) t₀ d = a3 m c := by
  unfold Dat.before; rw [if_pos (fetch_3 t₀)]; exact fetched_3 m ρ c d
theorem off_4 : (fun a => win0_4.kind.off (win0_4.index t₀ a) (win0_4.size a)) = fun _ => 0 := by funext a; fin_cases a <;> rfl
theorem fetched_4 (c : Dev nD) (d) : (dats m ρ 0 c).fetched (4 : Fin 6) t₀ d = a4 m c := by
  funext j
  have hm : (cfg0.win (4 : Fin 6)).moved (cfg0.grid.coords t₀) j = true := ((cfg0.win (4 : Fin 6)).moved_iff _ j).mpr fun a => (j a).isLt
  unfold Dat.fetched Window.fill
  rw [dif_pos hm]
  exact congrFun (Memref.read_access_unit_zero (Elt F) main_arg4 off_4 _ (a4 m c)) j
theorem staged_4 (c : Dev nD) (d) : (dats m ρ 0 c).before (4 : Fin 6) t₀ d = a4 m c := by
  unfold Dat.before; rw [if_pos (fetch_4 t₀)]; exact fetched_4 m ρ c d

def bodyPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ c ∗ (dats m ρ 0 c).owesAt () t₀.succ ∗ stg c cc0_stg0_0 (a0 m c) ∗ stg c cc0_stg1_0 (a1 m c)
    ∗ stg c cc0_stg2_0 (a2 m c) ∗ stg c cc0_stg3_0 (a3 m c) ∗ stg c cc0_stg4_0 (a4 m c) ∗ stg c cc0_stg5_0 (OUT m))

/-- The pipeline's precondition is the body's. -/
theorem pre_before (c : Dev nD) : bodyPre m ρ c ⊢ iprop(∃ K, ∃ W, before m K W c) := by
  unfold bodyPre Φ₀ start ghost poss pays credits scratch before
  rw [bigSep_fin14, bigSep_fin14, bigSep_fin16, due_bar, due_exit, due_recv 5 (by decide), due_recv 6 (by decide), due_recv 7 (by decide),
    due_recv 11 (by decide), due_recv 12 (by decide), due_recv 13 (by decide)]
  unfold Dat.owesAt Pipeline.owesWithin
  rw [show (dats m ρ 0 c).owed t₀.castSucc = owedN c 10 from rfl]
  iintro ⟨⟨⟨⟨%K, HR, HP, ⟨T0, T1, T2, T3, T4, T5, T6, T7, T8, T9, U⟩⟩, ⟨C0, C1, -, -, -, C5, C6, C7, -, -, -, C11, C12, C13⟩, HL⟩, HS⟩, ⟨%W, %hW, HO⟩,
    ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  rw [staged_0] at h0; rw [staged_1] at h1; rw [staged_2] at h2; rw [staged_3] at h3; rw [staged_4] at h4
  subst h0 h1 h2 h3 h4
  iexists K; iexists W
  isplitl [HR]; · iexact HR
  isplitl [HL]; · iexact HL
  isplitl [HO]; · iexact HO
  isplitl [HP]; · iexact HP
  isplitl [T0 T1 T2 T3 T4 T5 T6 T7 T8 T9 U]
  · isplitl [T0]; · iapply (Entails.of_eq (show payTok (F := F) c 0 = payTok c (lastPay 9) from rfl)); iexact T0
    isplitl [T1]; · iapply (Entails.of_eq (show payTok (F := F) c 1 = payTok c (lastPay 8) from rfl)); iexact T1
    isplitl [T2]; · iapply (Entails.of_eq (show payTok (F := F) c 2 = payTok c (lastPay 7) from rfl)); iexact T2
    isplitl [T3]; · iapply (Entails.of_eq (show payTok (F := F) c 3 = payTok c (lastPay 6) from rfl)); iexact T3
    isplitl [T4]; · iapply (Entails.of_eq (show payTok (F := F) c 4 = payTok c (lastPay 5) from rfl)); iexact T4
    isplitl [T5]; · iapply (Entails.of_eq (show payTok (F := F) c 5 = payTok c (lastPay 4) from rfl)); iexact T5
    isplitl [T6]; · iapply (Entails.of_eq (show payTok (F := F) c 6 = payTok c (lastPay 3) from rfl)); iexact T6
    isplitl [T7]; · iapply (Entails.of_eq (show payTok (F := F) c 7 = payTok c (lastPay 2) from rfl)); iexact T7
    isplitl [T8]; · iapply (Entails.of_eq (show payTok (F := F) c 8 = payTok c (lastPay 1) from rfl)); iexact T8
    isplitl [T9]; · iapply (Entails.of_eq (show payTok (F := F) c 9 = payTok c (lastPay 0) from rfl)); iexact T9
    iexact U
  isplitl [C0 C1 C5 C6 C7 C11 C12 C13]
  · isplitl [C0]; · iexact C0
    isplitl [C1]; · iexact C1
    isplitl [C5]; · iexact C5
    isplitl [C6]; · iexact C6
    isplitl [C7]; · iexact C7
    isplitl [C11]; · iexact C11
    isplitl [C12]; · iexact C12
    iexact C13
  isplitl [H0 H1 H2 H3 H4 H5]
  · isplitl [H0]; · iexact H0
    isplitl [H1]; · iexact H1
    isplitl [H2]; · iexact H2
    isplitl [H3]; · iexact H3
    isplitl [H4]; · iexact H4
    unfold anyWhole; iexists g5; iexact H5
  iexact HS

/-- The body's postcondition is the pipeline's. -/
theorem after_post (c : Dev nD) : after m c ⊢ bodyPost m ρ c := by
  unfold bodyPost Φ₁ zeros scratch after
  rw [bigSep_fin14]
  unfold Dat.owesAt Pipeline.owesWithin
  rw [show (dats m ρ 0 c).owed t₀.succ = 0 from rfl]
  iintro ⟨⟨%W, HO⟩, HZ, ⟨H0, H1, H2, H3, H4, H5⟩, HS⟩
  isplitl [HS HZ]
  · isplitl [HS]; · iexact HS
    iexact HZ
  isplitl [HO]
  · iexists W; isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

set_option maxRecDepth 4000 in
/-- The body's obligation. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
        (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scoped0) (fun _ => bodyPost m ρ c)
  refine BIBase.Entails.trans (pre_before m ρ c) ?_
  iintro ⟨%K, %W, H⟩
  iapply (sound_body m K W c fun _ => bodyPost m ρ c)
  isplitl [H]; · iexact H
  iintro H
  iapply (after_post m ρ c); iexact H

/-! ## Allocating the cells -/

theorem ownSemFacts : Pipeline.OwnSemFacts cfg0.spec osem := by decide
theorem share_eq (c : Dev nD) (w : Fin cfg0.W) : (dats m ρ 0 c).share w = fullShare := by unfold Dat.share; split <;> rfl

/-- A device and a cell of its, as the launch lists them. -/
abbrev cellAt (g : Dev nD × Fin 14) : GSem nD τ sig := kcell g.1 g.2
theorem kcell_inj {c c' : Dev nD} {k k' : Fin 14} (h : kcell c k = kcell c' k') : c = c' ∧ k = k' :=
  ⟨congrArg (fun g : GSem nD τ sig => g.1.1) h, csem_injective (congrArg Prod.snd h)⟩
theorem cellAt_injective : Function.Injective cellAt := fun a b h => Prod.ext (kcell_inj h).1 (kcell_inj h).2
def ringCells : Finset (GSem nD τ sig) := Finset.univ.map ⟨cellAt, cellAt_injective⟩

/-- Duty `t` of a device's own cells. -/
abbrev tokOf (g : Dev nD × Fin 16) : GSem nD τ sig × ℕ × Bool := (kcell g.1 (cix g.2), 0, dty g.2)
theorem duty_injective : ∀ t t' : Fin 16, cix t = cix t' → dty t = dty t' → t = t' := by decide
theorem tokOf_injective : Function.Injective tokOf := fun a b h => by
  have h1 := kcell_inj (congrArg Prod.fst h)
  have h2 : dty a.2 = dty b.2 := congrArg (fun x : GSem nD τ sig × ℕ × Bool => x.2.2) h
  exact Prod.ext h1.1 (duty_injective _ _ h1.2 h2)
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The duty tokens of a device's own cells. -/
def toks (c : Dev nD) : sProp 𝕄 := bigSep Finset.univ fun t : Fin 16 => dutyTok ER (kcell c (cix t)) 0 (dty t)

/-- What the launch deals a device, and what the common step makes of it. -/
def G (c : Dev nD) : sProp 𝕄 :=
  iprop((bigSep Finset.univ fun k : Fin 14 => roundState ER (Rd m) (kcell c k) 0)
    ∗ (poss c ∗ bigSep Finset.univ fun k : Fin 14 => reached ER (kcell c k) 0) ∗ toks c)
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 14 => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G poss; simp only [bigSep_sep']
  isplitl [Hst]; · iexact Hst
  isplitl [Hat Hr]
  · isplitl [Hat]; · iexact Hat
    iexact Hr
  iexact Htok

/-- The kernel's own semaphores and the barrier are the fourteen cells. -/
theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  have e : (unscopedSems0 c : sProp 𝕄) = semVal (kcell c 0) 0 := by
    unfold unscopedSems0; rw [bigSep_eq_bigSepL_of_eq [SemLoc.reg barS] (by decide) (by decide)]; rfl
  unfold zeros
  rw [bigSep_fin14, e, Pipeline.ownSems0_eq_of_list c osem [0, 1, 2, 3, 4, 5, 6, 7, 8, 9, 10, 11, 12] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell c k)))
          ∗ (poss c ∗ bigSep Finset.univ fun k : Fin 14 => reached ER (kcell c k) 0) ∗ toks c) := by
  unfold G
  iintro ⟨Hos, Hus, Hst, Hat, Htok⟩
  ihave Hv := (Entails.of_eq (zeros_eq (F := F) c).symm) $$ [Hos Hus]
  · isplitl [Hus]; · iexact Hus
    iexact Hos
  imod (show iprop(zeros c ∗ bigSep Finset.univ fun k : Fin 14 => roundState ER (Rd m) (kcell c k) 0)
      ⊢ (|={Set.univ}=> bigSep Finset.univ fun k => iprop(∃ κ : ℕ, cellInv ER (Rd m) κ (kcell c k)) : sProp 𝕄) from by
        unfold zeros
        rw [← bigSep_sep']
        exact (bigSep_mono fun k _ => (Rounds.body_intro ER (Rd m) (kcell c k)).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- The tokens go from the cells' devices to the devices that pay. -/
theorem toks_around : (bigSep Finset.univ fun c : Dev nD => (toks c : sProp 𝕄)) ⊢ bigSep Finset.univ fun c : Dev nD => pays c := by
  unfold toks pays
  rw [Idealize.SL.BI.bigSep_univ_comm, Idealize.SL.BI.bigSep_univ_comm (fun (c : Dev nD) (t : Fin 16) => (payTok c t : sProp 𝕄))]
  refine bigSep_mono fun t _ => ?_
  exact Entails.of_eq (bigSep_univ_equiv (dest t) fun c : Dev nD => (dutyTok ER (kcell c (cix t)) 0 (dty t) : sProp 𝕄))

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell c k)))
          ∗ (poss c ∗ bigSep Finset.univ fun k : Fin 14 => reached ER (kcell c k) 0) ∗ toks c) : sProp 𝕄)
      ⊢ bigSep Finset.univ (G' m) := by
  rw [bigSep_sep', bigSep_sep', bigSep_sep', ← bigSep_univ_prod (fun g : Dev nD × Fin 14 => iprop(∃ κ : ℕ, cellInv ER (Rd m) κ (kcell g.1 g.2))),
    ← bigSep_univ_prod (fun g : Dev nD × Fin 14 => (reached ER (kcell g.1 g.2) 0 : sProp 𝕄))]
  iintro ⟨HI, ⟨Hat, #HR⟩, Htok⟩
  ihave HK := (BI.bigSep_exists_pi Finset.univ (fun (g : Dev nD × Fin 14) (κ : ℕ) => (cellInv ER (Rd m) κ (kcell g.1 g.2) : sProp 𝕄))) $$ HI
  icases HK with ⟨%K, #HI⟩
  ihave Htk := (toks_around (F := F)) $$ Htok
  iapply (bigSep_with (R := records m K) (Φ := fun c => iprop(poss c ∗ pays c)) (Ψ := G' m) fun c _ => show iprop(records m K ∗ poss c ∗ pays c) ⊢ G' m c by
    unfold G' ghost; iintro H; iexists K; iexact H)
  isplitr
  · unfold records; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credits -/

/-- What device `d` owes device `c`'s cell `k`. -/
theorem owedN_apply (d c : Dev nD) (k : Fin 14) (n : ℕ) :
    owedN d n (kcell c k) () = ∑ i ∈ Finset.range n, if dest (lastPay i) d = c ∧ cix (lastPay i) = k then amt k else 0 := by
  induction n with
  | zero => rfl
  | succ n ih =>
    rw [Finset.sum_range_succ, ← ih, owedN, Pi.add_apply, Finsupp.add_apply, tallyAt_apply]
    congr 1
    by_cases h : dest (lastPay n) d = c ∧ cix (lastPay n) = k
    · rw [if_pos h, if_pos ⟨by rw [h.1, h.2], rfl⟩, h.2]
    · rw [if_neg h, if_neg fun h' => h ⟨(kcell_inj h'.1).1.symm, (kcell_inj h'.1).2.symm⟩]

theorem launch_due (c : Dev nD) (k : Fin 14) :
    tallyOn (kcell c k) (launchCredit (Pipeline.owing O₀) 0 (kcell c k)) = (tallyAt (kcell c k) () (due k) : CellTallies nD τ sig Unit) := by
  unfold tallyAt; refine congrArg _ (Finsupp.ext fun u => ?_); cases u
  rw [Pipeline.launchCredit_owing, Finsupp.single_eq_same]
  unfold O₀ due
  rw [Finset.sum_congr rfl fun d _ => owedN_apply d c k 10, Finset.sum_comm]
  refine Finset.sum_congr rfl fun i _ => ?_
  by_cases h : cix (lastPay i) = k
  · rw [if_pos h, Finset.sum_eq_single ((dest (lastPay i)).symm c)]
    · rw [if_pos ⟨Equiv.apply_symm_apply _ _, h⟩]
    · intro d _ hd
      exact if_neg fun h' => hd (by rw [← h'.1, Equiv.symm_apply_apply])
    · intro h'; exact absurd (Finset.mem_univ _) h'
  · rw [if_neg h]; exact Finset.sum_eq_zero fun d _ => if_neg fun h' => h h'.2

theorem creds (c : Dev nD) : (Pipeline.launchCred O₀ c : sProp 𝕄) ⊢ credits c := by
  unfold Pipeline.launchCred credits
  refine BIBase.Entails.trans (bigSep_subset (Finset.subset_univ (Finset.univ.map ⟨csem, csem_injective⟩))) ?_
  rw [bigSep_map]
  exact bigSep_mono fun k _ => Entails.of_eq (congrArg (fun x => (cred x : sProp 𝕄)) (launch_due c k))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch anyWhole
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [zeros_eq]
  unfold scratch anyWhole
  iintro ⟨Hr, HU, HO⟩
  isplitl [HU]; · iexact HU
  isplitl [HO]; · iexact HO
  iexact Hr

theorem stage_level : ∀ (w : Fin 6) (s : Fin (cfg0.win w).nbuf), tag (SemLoc.dma ((cfg0.win w).sem s)) = none := by decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait c _ 0 10 (le_of_eq ?_) (by intro i hi; interval_cases i <;> decide)
      unfold lv; dsimp only; rw [stage_level w s]
    · exact mayWait c _ (lv ((c : Thread nD τ), _) ()) 0 (le_refl _) (fun i hi => absurd hi (Nat.not_lt_zero i))

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem flush_5 : (cfg0.win (5 : Fin 6)).flush t₀ = true := rfl

/-- The result array ends holding what the body left in its staging buffer. -/
theorem final_out (c : Dev nD) : finalA m ρ c (5 : Fin 6) = OUT m := by
  have h := (dats m ρ 0 c).arrAt_succ (5 : Fin 6) t₀
  rw [if_pos flush_5] at h
  exact h.trans (Memref.write_access_unit_zero_univ (Elt F) main_v1 (off := fun a => win0_5.kind.off (win0_5.index t₀ a) (win0_5.size a))
    (by funext a; fin_cases a <;> rfl) _ _ (OUT m))

/-- Every run ends with the result on every device, the arguments as launched and every semaphore at zero. -/
theorem run_main : θ_run defs (onTc (τ := τ) (main (F := F))) (s₀ m ρ) (fun r =>
    (∀ c : Dev nD, r.2.mem ((c : Thread nD τ).loc main_v1) = OUT m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run defs _ _).mono (fun r h => ⟨fun c => ⟨(h.1 c (5 : Fin 6)).trans (final_out m ρ c),
    (h.1 c (0 : Fin 6)).trans ((dats m ρ 0 c).arrAt_in (0 : Fin 6) rfl _),
    (h.1 c (1 : Fin 6)).trans ((dats m ρ 0 c).arrAt_in (1 : Fin 6) rfl _),
    (h.1 c (2 : Fin 6)).trans ((dats m ρ 0 c).arrAt_in (2 : Fin 6) rfl _),
    (h.1 c (3 : Fin 6)).trans ((dats m ρ 0 c).arrAt_in (3 : Fin 6) rfl _),
    (h.1 c (4 : Fin 6)).trans ((dats m ρ 0 c).arrAt_in (4 : Fin 6) rfl _)⟩, h.2⟩) (run_arrays m ρ)

end Cert.KernelIdeal.Run

end
-- ==== Proof.Frames.lean ====
/-
# The frames and the named constants

Every program runs to the end, leaves its arguments as they were and every semaphore at zero; and the two constants that
are named in the idealized kernel stand for the values the kernel's literals round.
-/
module

public import proofs.«01_k».proof.Defs
public import proofs.«01_k».proof.Proof.K.Launch
public import proofs.«01_k».proof.Proof.KI.Launch
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof

theorem frame_kernel : Cert.quiescent_Kernel := fun m g _ =>
  (θ_run Cert.Kernel.defs _ _).mono (fun r h => ⟨fun c => (h.1 c).2, h.2⟩) (Cert.Kernel.Run.run_main (F := Bits) m g)

theorem frame_ideal : Cert.quiescent_KernelIdeal := fun m g _ =>
  (θ_run Cert.KernelIdeal.defs _ _).mono (fun r h => ⟨fun c => (h.1 c).2, h.2⟩) (Cert.KernelIdeal.Run.run_main (F := Ideal) m g)

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem preserves : Cert.preserves_Kernel_KernelIdeal :=
  ⟨IdealRules.named_const.statement Cert.KernelIdeal.κ "rope_rate" .f32 0xBD935D8E#32 _ rfl,
    IdealRules.named_const.statement Cert.KernelIdeal.κ "score_scale" .bf16 0x3DB5#16 _ rfl⟩

end Cert.Proof

end
-- ==== Proof.Attention.lean ====
/-
# Attention on extended reals, one query row at a time

What a device computes for one row of its rotated queries, written as sums: the scores of a head, the head's weighted
mean of the values, and the product of the heads with the output weights. No maximum is subtracted before the
exponential, and the reciprocal of the weights' sum is multiplied in at the end.
-/
module

public import Idealize.ShloMosaic.PureOps.Ideal.Laws

@[expose] public section

noncomputable section

namespace Cert.Attention

open Idealize.ShloMosaic
open scoped BigOperators

/-- Column `d` of head `n`, among the 1024 columns of eight heads. -/
def col (n : Fin 8) (d : Fin 128) : Fin 1024 := ⟨128 * n.val + d.val, by omega⟩

/-- The head that a column belongs to. -/
def headOf (e : Fin 1024) : Fin 8 := ⟨e.val / 128, by omega⟩

/-- A column's place in its head. -/
def dimOf (e : Fin 1024) : Fin 128 := ⟨e.val % 128, by omega⟩

theorem col_headOf_dimOf (e : Fin 1024) : col (headOf e) (dimOf e) = e :=
  Fin.ext (Nat.div_add_mod e.val 128)

/-- The score of a row of queries against key `j`, in head `n`. -/
def score (q : Fin 1024 → EReal) (k : Fin 1024 → Fin 1024 → EReal) (n : Fin 8) (j : Fin 1024) : EReal :=
  ∑ d : Fin 128, q (col n d) * k j (col n d)

/-- Head `n` of a row at place `d`: the exponentials' weighted sum of the values times the reciprocal of their sum. -/
def mean (q : Fin 1024 → EReal) (k v : Fin 1024 → Fin 1024 → EReal) (n : Fin 8) (d : Fin 128) : EReal :=
  (∑ j : Fin 1024, Ideal.exp (score q k n j) * v j (col n d)) * Ideal.div 1 (∑ j : Fin 1024, Ideal.exp (score q k n j))

/-- A device's part of a row of the result: the eight heads times the device's rows of the output weights. -/
def contribution (q : Fin 1024 → EReal) (k v o : Fin 1024 → Fin 1024 → EReal) (m : Fin 1024) : EReal :=
  ∑ e : Fin 1024, mean q k v (headOf e) (dimOf e) * o e m

end Cert.Attention
-- ==== Proof.Rope.lean ====
/-
# The rotary embedding on extended reals

The angle of a position and a place in a head, spelled as the kernel spells it (`angle`) and as the reference does
(`angle_eq`), and a row of 1024 columns rotated by the angles of its position.
-/
module

public import proofs.«01_k».proof.Proof.Attention
public import Mathlib.Analysis.SpecialFunctions.Pow.Real

@[expose] public section

noncomputable section

namespace Cert.Attention

open Idealize.ShloMosaic

/-- The angle of position `i` at place `d` of a head: the two places of a pair share one frequency. -/
def angle (i d : ℕ) : ℝ := (i : ℝ) * Real.exp (((2 * (d / 2) : ℕ) : ℝ) * -(Real.log 10000 * (1 / 128)))

/-- The frequency is a power of ten thousand. -/
theorem angle_eq (i d : ℕ) : angle i d = (i : ℝ) * (1 / (10000 : ℝ) ^ (((2 * (d / 2) : ℕ) : ℝ) / 128)) := by
  unfold angle
  rw [Real.rpow_def_of_pos (by norm_num : (0 : ℝ) < 10000), one_div (Real.exp _), ← Real.exp_neg]
  congr 2
  ring

/-- The other place of a pair. -/
def partner (e : Fin 1024) : Fin 1024 := ⟨if e.val % 2 = 0 then e.val + 1 else e.val - 1, by split <;> omega⟩

/-- A row rotated by the angles of position `i`. -/
def rotated (t : Fin 1024 → EReal) (i : ℕ) (e : Fin 1024) : EReal :=
  t e * ((Real.cos (angle i (e.val % 128)) : ℝ) : EReal)
    + (if e.val % 2 = 0 then -t (partner e) else t (partner e)) * ((Real.sin (angle i (e.val % 128)) : ℝ) : EReal)

/-- The number that the scores are multiplied by. -/
def scale : ℝ := 11863283 / 134217728

theorem scale_pos : 0 < scale := by unfold scale; norm_num

end Cert.Attention
-- ==== Proof.Softmax.lean ====
/-
# The softmax with and without its maximum

On real scores, dividing every shifted exponential by the sum of the shifted exponentials and then averaging is the
average of the plain exponentials times the reciprocal of their sum. The averaged values may be infinite.
-/
module

public import proofs.«01_k».proof.Proof.Rope

@[expose] public section

noncomputable section

namespace Cert.Attention

open Idealize.ShloMosaic
open scoped BigOperators

/-! ## Real extended reals -/

/-- An extended real that is a real number. -/
def IsReal (x : EReal) : Prop := ∃ r : ℝ, x = (r : EReal)

theorem IsReal.coe (r : ℝ) : IsReal (r : EReal) := ⟨r, rfl⟩

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

theorem IsReal.neg {x : EReal} : IsReal x → IsReal (-x)
  | ⟨a, ha⟩ => ⟨-a, by rw [ha, EReal.coe_neg]⟩

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem IsReal.sum {ι : Type} [Fintype ι] {f : ι → EReal} (h : ∀ k, IsReal (f k)) : IsReal (∑ k, f k) := by
  choose g hg using h
  exact ⟨∑ k, g k, by rw [coe_sum]; exact Finset.sum_congr rfl fun k _ => hg k⟩

theorem rotated_real {t : Fin 1024 → EReal} (h : ∀ e, IsReal (t e)) (i : ℕ) (e : Fin 1024) : IsReal (rotated t i e) := by
  unfold rotated
  refine ((h e).mul (.coe _)).add (IsReal.mul ?_ (.coe _))
  split
  · exact (h _).neg
  · exact h _

/-! ## Sums -/

/-- A real factor that is not negative goes into a sum of extended reals. -/
theorem sum_mul_nonneg {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The largest of some reals is a real. -/
theorem fold_max_real (f : Fin 1024 → EReal) (h : ∀ j, IsReal (f j)) : IsReal (Finset.univ.fold max ⊥ f) := by
  have hb : ∀ s : Finset (Fin 1024), s.Nonempty → IsReal (s.fold max ⊥ f) := by
    intro s
    induction s using Finset.induction_on with
    | empty => exact fun hs => absurd hs Finset.not_nonempty_empty
    | insert a s ha ih =>
      intro _
      rw [Finset.fold_insert ha]
      rcases s.eq_empty_or_nonempty with rfl | hs
      · rw [Finset.fold_empty, max_eq_left bot_le]
        exact h a
      · rcases max_choice (f a) (s.fold max ⊥ f) with e | e
        · rw [e]; exact h a
        · rw [e]; exact ih hs
  exact hb _ ⟨0, Finset.mem_univ _⟩

/-! ## The two forms of the weighted mean -/

/-- The shift by a real `p` cancels, and the division may be done last. -/
theorem shift_cancels (s : Fin 1024 → ℝ) (p : ℝ) (v : Fin 1024 → EReal) :
    ∑ j, v j * Ideal.div (Ideal.exp ((s j : EReal) - (p : EReal))) (∑ k, Ideal.exp ((s k : EReal) - (p : EReal)))
      = (∑ j, Ideal.exp (s j : EReal) * v j) * Ideal.div 1 (∑ k, Ideal.exp (s k : EReal)) := by
  have hexp : ∀ x : ℝ, Ideal.exp (x : EReal) = ((Real.exp x : ℝ) : EReal) := fun _ => rfl
  have hsub : ∀ k, Ideal.exp ((s k : EReal) - (p : EReal)) = ((Real.exp (s k - p) : ℝ) : EReal) := fun k => by
    rw [← EReal.coe_sub]; exact hexp _
  have hpos : ∀ f : Fin 1024 → ℝ, 0 < ∑ k, Real.exp (f k) := fun f =>
    Finset.sum_pos (fun k _ => Real.exp_pos _) ⟨0, Finset.mem_univ _⟩
  have hz : ∑ k, Real.exp (s k - p) = (∑ k, Real.exp (s k)) * Real.exp (-p) := by
    rw [Finset.sum_mul]
    exact Finset.sum_congr rfl fun k _ => by rw [sub_eq_add_neg, Real.exp_add]
  have hZ := hpos s
  simp only [hsub, hexp, ← coe_sum]
  rw [Ideal.div_coe hZ.ne', one_mul, sum_mul_nonneg _ _ _ (one_div_pos.mpr hZ).le]
  refine Finset.sum_congr rfl fun j _ => ?_
  rw [Ideal.div_coe (hpos fun k => s k - p).ne', ← EReal.coe_mul, hz, mul_comm (v j)]
  have e : Real.exp (s j - p) * (1 / ((∑ k, Real.exp (s k)) * Real.exp (-p))) = Real.exp (s j) * (1 / ∑ k, Real.exp (s k)) := by
    have := (Real.exp_pos (-p)).ne'
    rw [sub_eq_add_neg, Real.exp_add]
    field_simp
  rw [e, EReal.coe_mul, mul_assoc, mul_assoc, mul_comm (v j)]

/-- The score of a row of unscaled queries against key `j` in head `n`, scaled after the sum. -/
def scaledScore (q : Fin 1024 → EReal) (k : Fin 1024 → Fin 1024 → EReal) (n : Fin 8) (j : Fin 1024) : EReal :=
  (∑ d : Fin 128, q (col n d) * k j (col n d)) * ((scale : ℝ) : EReal)

theorem score_scaled (q : Fin 1024 → EReal) (k : Fin 1024 → Fin 1024 → EReal) (n : Fin 8) (j : Fin 1024) :
    score (fun e => q e * ((scale : ℝ) : EReal)) k n j = scaledScore q k n j := by
  unfold score scaledScore
  rw [sum_mul_nonneg _ _ _ scale_pos.le]
  exact Finset.sum_congr rfl fun d _ => by rw [mul_assoc, mul_comm ((scale : ℝ) : EReal), ← mul_assoc]

/-- The weighted mean of a head is the softmax of its scaled scores times the values. -/
theorem mean_eq (q : Fin 1024 → EReal) (k v : Fin 1024 → Fin 1024 → EReal) (n : Fin 8) (d : Fin 128)
    (hq : ∀ e, IsReal (q e)) (hk : ∀ j e, IsReal (k j e)) :
    mean (fun e => q e * ((scale : ℝ) : EReal)) k v n d
      = ∑ j : Fin 1024, v j (col n d)
          * Ideal.div (Ideal.exp (scaledScore q k n j - Finset.univ.fold max ⊥ (scaledScore q k n)))
              (∑ j : Fin 1024, Ideal.exp (scaledScore q k n j - Finset.univ.fold max ⊥ (scaledScore q k n))) := by
  have hs : ∀ j, IsReal (scaledScore q k n j) := fun j =>
    (IsReal.sum fun d => (hq _).mul (hk j _)).mul (.coe _)
  obtain ⟨p, hp⟩ := fold_max_real _ hs
  choose s hS using hs
  have h1 : score (fun e => q e * ((scale : ℝ) : EReal)) k n = fun j => (s j : EReal) :=
    funext fun j => (score_scaled q k n j).trans (hS j)
  have h2 : scaledScore q k n = fun j => (s j : EReal) := funext hS
  unfold mean
  rw [h1, hp, h2]
  exact (shift_cancels s p fun j => v j (col n d)).symm

end Cert.Attention
-- ==== Proof.Finite.lean ====
/-
# The precondition

The shape facts that the printed precondition states, on a device's blocks and on the whole arrays, and what it says of a
device: every element of the activations and of the query and key weights is a real number.
-/
module

public import proofs.«01_k».proof.Defs
public import proofs.«01_k».proof.Proof.Softmax
public import Idealize.ShloMosaic.Lib.ReduceAll
public import Idealize.ShloMosaic.Lib.Affine
public import Idealize.ShloMosaic.Lib.WordCmp
public import Idealize.ShloMosaic.Lib.Pointwise.ElementwiseCore
public import Idealize.ShloMosaic.Lib.ValueLayout

@[expose] public section

noncomputable section

namespace Cert.Proof

open Idealize.ShloMosaic Idealize.ShloMosaic.TcCoe

theorem facts_blocks : Cert.Pre_finite_KernelIdeal.Facts where
  bitsLt_bf16_f32 := by decide
  bcast_S_S1x1024x1024 := by decide
  reducesTo_S1x1024x1024_S_d0_1_2 := by decide
  h_S_ := by decide
  bcast_S_S1024x1024 := by decide
  reducesTo_S1024x1024_S_d0_1 := by decide

theorem facts_whole : Cert.Pre_finite_ReferenceIdeal.Facts where
  bitsLt_bf16_f32 := by decide
  bcast_S_S1x1024x1024 := by decide
  reducesTo_S1x1024x1024_S_d0_1_2 := by decide
  h_S_ := by decide
  bcast_S_S1024x4096 := by decide
  reducesTo_S1024x4096_S_d0_1 := by decide

theorem ofBits_top : Ideal.ofBits .f32 0x7F800000#32 = ⊤ := by
  simp [Ideal.ofBits, Ideal.ieee]

/-- An element whose magnitude is below infinity is real. -/
theorem real_of_below (a : EReal) (h : Ideal.cmp .olt (max a (-a)) (Ideal.ofBits .f32 0x7F800000#32) = 1#1) :
    Attention.IsReal a := by
  rw [ofBits_top] at h
  induction a using EReal.rec with
  | bot => simp [Ideal.cmp] at h
  | top => simp [Ideal.cmp] at h
  | coe r => exact .coe r

/-- A rank-zero array has one index. -/
instance : Subsingleton Cert.Pre_finite_KernelIdeal.S_.Idx := ⟨fun _ _ => funext fun d => d.elim0⟩

/-- Of a device's blocks the precondition says that the activations and the query and key weights are real. -/
theorem real_of_finite [Cert.Pre_finite_KernelIdeal.Facts]
    (x : FVec Ideal Cert.Pre_finite_KernelIdeal.S1x1024x1024 .bf16)
    (wq wk wv wo : FVec Ideal Cert.Pre_finite_KernelIdeal.S1024x1024 .bf16)
    (h : Cert.Pre_finite_KernelIdeal.fn (F := Ideal) x wq wk wv wo = fun _ => 1#1) :
    (∀ i, Attention.IsReal (x i)) ∧ (∀ i, Attention.IsReal (wq i)) ∧ ∀ i, Attention.IsReal (wk i) := by
  have e := congrFun h ValueIdx.ix0
  unfold Cert.Pre_finite_KernelIdeal.fn at e
  obtain ⟨e, e2⟩ := IntOp.andi_eq_one.1 e
  obtain ⟨e0, e1⟩ := IntOp.andi_eq_one.1 e
  exact ⟨fun i => real_of_below _ (Host.reduce_andi_all _ _ _ _ _ e0 i),
    fun i => real_of_below _ (Host.reduce_andi_all _ _ _ _ _ e1 i),
    fun i => real_of_below _ (Host.reduce_andi_all _ _ _ _ _ e2 i)⟩

end Cert.Proof
-- ==== Proof.KI.Heads.lean ====
/-
# One device's attention, head by head, and its product with the output weights

The kernel writes the eight heads of a block of 256 query rows out one after the other, four times. Here one head is one
function of the column it starts at, a block of rows is the eight heads side by side times the output weights, and the
four partial results of `Contents` are that function of their queries.
-/
module

public import proofs.«01_k».proof.Proof.KI.Contents

@[expose] public section

noncomputable section

namespace Cert.KernelIdeal.Run

open Cert.KernelIdeal Cert.KernelIdeal.Gen
open Idealize.ShloMosaic Idealize.ShloMosaic.TcCoe Idealize.SL.Sem

variable {F : FTy → Type} [FloatOps F] [Named F]

/-- The 128 columns of head `n` lie in the 1024 of a block of queries. -/
theorem slices_q (n : Fin 8) : S256x1024.Slices ![0, 128 * n.val] S256x128 := by revert n; decide

/-- The 128 columns of head `n` lie in the 1024 of the keys and of the values. -/
theorem slices_k (n : Fin 8) : S1024x1024.Slices ![0, 128 * n.val] S1024x128 := by revert n; decide

/-- The exponentials of head `n`'s scores of 256 queries against the 1024 keys. -/
def weights (k : FVec F S1024x1024 .bf16) (q : FVec F S256x1024 .bf16) (n : Fin 8) : FVec F S256x1024 .bf16 :=
  exp (truncf .bf16 (matmul dot_S256x128_S1024x128_S256x1024_1_1_0_0_n_n none
    (extractStridedSlice S256x128 ![0, 128 * n.val] q (slices_q n))
    (extractStridedSlice S1024x128 ![0, 128 * n.val] k (slices_k n))
    (constant S256x1024 .f32 0x00000000#32)) bitsLt_bf16_f32)

/-- The reciprocal of each row's sum. -/
def recip (e : FVec F S256x1024 .bf16) : FVec F S256x1 .f32 :=
  divf (broadcast S256x1 (Scalar.ofBits .f32 0x3F800000#32))
    (shapeCast S256x1 (multiReduction .add [1] S256 (extf .f32 e bitsLt_bf16_f32) 0x00000000#32 reduces_S256x1024_S256
      (.inl rfl) rfl) shapeCasts_S256_S256x1)

/-- Head `n` of a block of 256 rows: the weighted sum of the values, times the reciprocal of the weights' sum. -/
def head (v k : FVec F S1024x1024 .bf16) (q : FVec F S256x1024 .bf16) (n : Fin 8) : FVec F S256x128 .bf16 :=
  truncf .bf16 (mulf
    (matmul dot_S256x1024_S1024x128_S256x128_1_0_0_1_n_n none (weights k q n)
      (extractStridedSlice S1024x128 ![0, 128 * n.val] v (slices_k n)) (constant S256x128 .f32 0x00000000#32))
    (broadcastTo S256x128 (recip (weights k q n)) broadcasts_S256x1_S256x128)) bitsLt_bf16_f32

/-- Eight blocks of 128 columns fill 1024. -/
theorem heads_fill (f : Fin 8 → FVec F S256x128 .bf16) :
    Shape.Concatenates ((List.ofFn fun n : Fin 8 => (⟨S256x128, f n⟩ : (s : Shape) × (s.Idx → F .bf16))).map (·.1))
      S256x1024 1 :=
  concatenates_S256x128_S256x128_S256x128_S256x128_S256x128_S256x128_S256x128_S256x128_S256x1024_d1

/-- The eight heads side by side. -/
def heads (v k : FVec F S1024x1024 .bf16) (q : FVec F S256x1024 .bf16) : FVec F S256x1024 .bf16 :=
  concatenate S256x1024 1 (List.ofFn fun n : Fin 8 => ⟨S256x128, head v k q n⟩) (heads_fill (head v k q))

/-- A device's part of 256 rows of the result: its heads times its rows of the output weights. -/
def part (o v k : FVec F S1024x1024 .bf16) (q : FVec F S256x1024 .bf16) : FVec F S256x1024 .bf16 :=
  truncf .bf16 (matmul dot_S256x1024_S1024x1024_S256x1024_1_0_0_1_n_n none (heads v k q) o
    (constant S256x1024 .f32 0x00000000#32)) bitsLt_bf16_f32

/-- The block of the reduce-scatter's first step is the part alone. -/
theorem blk0_eq (o v k : FVec F S1024x1024 .bf16) (q : FVec F S256x1024 .bf16) :
    blk0 o v k q = shapeCast S1x1x256x1024 (part o v k q) shapeCasts_S256x1024_S1x1x256x1024 := rfl

/-- The second step adds the block that arrived. -/
theorem blk1_eq (o v k : FVec F S1024x1024 .bf16) (q : FVec F S256x1024 .bf16) (b : FVec F S1x1x256x1024 .bf16) :
    blk1 o v k q b = shapeCast S1x1x256x1024 (addf (part o v k q)
      (shapeCast S256x1024 b shapeCasts_S1x1x256x1024_S256x1024)) shapeCasts_S256x1024_S1x1x256x1024 := rfl

/-- So does the third. -/
theorem blk2_eq (o v k : FVec F S1024x1024 .bf16) (q : FVec F S256x1024 .bf16) (b : FVec F S1x1x256x1024 .bf16) :
    blk2 o v k q b = shapeCast S1x1x256x1024 (addf (part o v k q)
      (shapeCast S256x1024 b shapeCasts_S1x1x256x1024_S256x1024)) shapeCasts_S256x1024_S1x1x256x1024 := rfl

/-- The last step's sum stays a block of rows. -/
theorem blk3_eq (o v k : FVec F S1024x1024 .bf16) (q : FVec F S256x1024 .bf16) (b : FVec F S1x1x256x1024 .bf16) :
    blk3 o v k q b = addf (part o v k q) (shapeCast S256x1024 b shapeCasts_S1x1x256x1024_S256x1024) := rfl

end Cert.KernelIdeal.Run
-- ==== Proof.KI.HeadValue.lean ====
/-
# The heads' elements on extended reals

A block of rows times the output weights (`part`), read at a row and a column, is the sums of `Proof.Attention`.
-/
module

public import proofs.«01_k».proof.Proof.KI.Heads
public import proofs.«01_k».proof.Proof.Attention
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

noncomputable section

namespace Cert.KernelIdeal.Run

open Cert.KernelIdeal Cert.KernelIdeal.Gen
open Idealize.ShloMosaic Idealize.ShloMosaic.TcCoe Idealize.SL.Sem Idealize.ShloMosaic.ValueIdx
open scoped BigOperators

/-- An exponential's weight is the exponential of the score. -/
theorem weights_apply (k : FVec Ideal S1024x1024 .bf16) (q : FVec Ideal S256x1024 .bf16) (n : Fin 8) (r : Fin 256)
    (j : Fin 1024) :
    weights k q n (ix2 r j)
      = Ideal.exp (Attention.score (fun e => q (ix2 r e)) (fun j e => k (ix2 j e)) n j) := by
  refine congrArg Ideal.exp ?_
  refine (Ideal.matmul_transposedRhs_apply (M := 256) (K := 128) (N := 1024) none _ _ _ r j).trans ?_
  rw [constant_apply, Ideal.ofBits_zero_f32, zero_add]
  refine Finset.sum_congr rfl fun d _ => ?_
  rw [slice2_axis1_apply (128 * n.val) q (slices_q n) r d (Attention.col n d) rfl,
    slice2_axis1_apply (128 * n.val) k (slices_k n) j d (Attention.col n d) rfl]

/-- The reciprocal of a row's sum. -/
theorem recip_apply (e : FVec Ideal S256x1024 .bf16) (r : Fin 256) :
    recip e (ix2 r (0 : Fin 1)) = Ideal.div 1 (∑ j : Fin 1024, e (ix2 r j)) := by
  refine congrArg₂ Ideal.div Ideal.ofBits_one_f32 ?_
  refine (shapeCast_a_a1_apply _ shapeCasts_S256_S256x1 r (0 : Fin 1)).trans ?_
  refine (Ideal.multiReduction_add_single _ _ reduces_S256x1024_S256 (.inl rfl) rfl (ix1 r)).trans ?_
  refine Finset.sum_congr rfl fun j _ => congrArg e ?_
  funext a
  match a with
  | ⟨0, _⟩ => rfl
  | ⟨1, _⟩ => rfl

/-- One head at a row and a place. -/
theorem head_apply (v k : FVec Ideal S1024x1024 .bf16) (q : FVec Ideal S256x1024 .bf16) (n : Fin 8) (r : Fin 256)
    (d : Fin 128) :
    head v k q n (ix2 r d)
      = Attention.mean (fun e => q (ix2 r e)) (fun j e => k (ix2 j e)) (fun j e => v (ix2 j e)) n d := by
  refine congrArg₂ (fun a b : EReal => a * b) ?_ ?_
  · refine (Ideal.matmul_plain_apply (M := 256) (K := 1024) (N := 128) none _ _ _ r d).trans ?_
    rw [constant_apply, Ideal.ofBits_zero_f32, zero_add]
    refine Finset.sum_congr rfl fun j _ => ?_
    rw [weights_apply, slice2_axis1_apply (128 * n.val) v (slices_k n) j d (Attention.col n d) rfl]
  · refine (broadcastTo_apply _ broadcasts_S256x1_S256x128 (ix2 r d) (ix2 r (0 : Fin 1)) ?_).trans ?_
    · intro a
      match a with
      | ⟨0, _⟩ => rfl
      | ⟨1, _⟩ => rfl
    · rw [recip_apply]
      simp only [weights_apply]

/-- The heads side by side at a row and a column. -/
theorem heads_apply (v k : FVec Ideal S1024x1024 .bf16) (q : FVec Ideal S256x1024 .bf16) (r : Fin 256) (e : Fin 1024) :
    heads v k q (ix2 r e)
      = Attention.mean (fun e => q (ix2 r e)) (fun j e => k (ix2 j e)) (fun j e => v (ix2 j e))
          (Attention.headOf e) (Attention.dimOf e) := by
  refine (concatenate_ofFn_apply (s₁ := S256x128) (t := S256x1024) 1 (head v k q) (heads_fill (head v k q)) rfl 128 rfl
    (ix2 r e) (Attention.headOf e) rfl (ix2 r (Attention.dimOf e)) rfl ?_).trans
    (head_apply v k q (Attention.headOf e) r (Attention.dimOf e))
  intro b hb
  match b with
  | ⟨0, _⟩ => rfl
  | ⟨1, _⟩ => exact absurd rfl hb

/-- A device's part of a block of rows at a row and a column. -/
theorem part_apply (o v k : FVec Ideal S1024x1024 .bf16) (q : FVec Ideal S256x1024 .bf16) (r : Fin 256) (m : Fin 1024) :
    part o v k q (ix2 r m)
      = Attention.contribution (fun e => q (ix2 r e)) (fun j e => k (ix2 j e)) (fun j e => v (ix2 j e))
          (fun e m => o (ix2 e m)) m := by
  refine (Ideal.matmul_plain_apply (M := 256) (K := 1024) (N := 1024) none _ _ _ r m).trans ?_
  rw [constant_apply, Ideal.ofBits_zero_f32, zero_add]
  refine Finset.sum_congr rfl fun e _ => ?_
  rw [heads_apply]

end Cert.KernelIdeal.Run
-- ==== Proof.KI.ChainValue.lean ====
/-
# The result's elements on extended reals

The chain of the reduce-scatter adds up the four devices' parts of every row: an element of the result is the sum over
the devices of the device's contribution (`OUT_apply`).
-/
module

public import proofs.«01_k».proof.Proof.KI.Out
public import proofs.«01_k».proof.Proof.KI.HeadValue
public import Mathlib.Tactic.Abel

@[expose] public section

noncomputable section

namespace Cert.KernelIdeal.Run

open Cert.KernelIdeal Cert.KernelIdeal.Gen
open Idealize.ShloMosaic Idealize.ShloMosaic.TcCoe Idealize.SL.Sem Idealize.ShloMosaic.ValueIdx
open scoped BigOperators

/-- Row `r` of chunk `d`. -/
def rowOf (d : Dev nD) (r : Fin 256) : Fin 1024 :=
  ⟨256 * d.val + r.val, by have : d.val < 4 := d.isLt; omega⟩

/-- 256 rows read from the queries' buffer. -/
theorem rows_apply (x : FVec Ideal S1024x1024 .bf16) (off : Fin 2 → ℕ)
    (inb : ∀ a, off a + S256x1024.size a ≤ S1024x1024.size a) (d : Dev nD) (hoff : off = ![256 * d.val, 0]) (r : Fin 256)
    (e : Fin 1024) :
    mQ.view.readAt (Elt Ideal) (Rect.unit (s := S1024x1024) off S256x1024.size inb).toLoadRect x (ix2 r e)
      = x (ix2 (rowOf d r) e) := by
  subst hoff
  refine congrArg x (Shape.idx_ext₂ ?_ ?_)
  · show 256 * d.val + 1 * r.val = 256 * d.val + r.val
    omega
  · show 0 + 1 * e.val = e.val
    omega

variable (m : (ℓ : Loc nD τ sig) → Buf (Elt Ideal) ℓ)

/-- Device `c`'s contribution to an element of the result. -/
def contrib (c : Dev nD) (i n : Fin 1024) : EReal :=
  Attention.contribution (fun e => Qv m c (ix2 i e)) (fun j e => Kv m c (ix2 j e)) (fun j e => Vv m c (ix2 j e))
    (fun e n => Ov m c (ix2 e n)) n

/-- A device's part of a chunk whose queries it has read. -/
theorem part_contrib (c d : Dev nD) (q : FVec Ideal S256x1024 .bf16)
    (hq : ∀ r e, q (ix2 r e) = Qv m c (ix2 (rowOf d r) e)) (r : Fin 256) (n : Fin 1024) :
    part (Ov m c) (Vv m c) (Kv m c) q (ix2 r n) = contrib m c (rowOf d r) n := by
  rw [part_apply]
  unfold contrib
  exact congrArg (fun f => Attention.contribution f _ _ _ n) (funext fun e => hq r e)

theorem off1_eq (c : Dev nD) : k0_off1 c = ![256 * c.val, 0] := by revert c; decide +kernel

/-- The finished rows of chunk `d`, which the device before `d` holds. -/
theorem V_apply (d : Dev nD) (r : Fin 256) (n : Fin 1024) :
    V m (lf d) (ix2 r n) = contrib m (lf d) (rowOf d r) n + (contrib m (op d) (rowOf d r) n
      + (contrib m (rt d) (rowOf d r) n + contrib m d (rowOf d r) n)) := by
  have e1 : op (op d) = d := op_op d
  have e2 : lf (rt d) = d := lf_rt d
  have e3 : rt (lf d) = d := rt_lf d
  have h0 := part_contrib m d d (q0 m d) (fun r e => rows_apply _ _ _ d (off1_eq d) r e) r n
  have h1 := part_contrib m (rt d) d (q1 m (rt d))
    (fun r e => rows_apply _ _ _ d ((off2_one (rt d)).trans (by rw [e2])) r e) r n
  have h2 := part_contrib m (op d) d (q2 m (op d))
    (fun r e => rows_apply _ _ _ d ((off2_two (op d)).trans (by rw [e1])) r e) r n
  have h3 := part_contrib m (lf d) d (q3 m (lf d))
    (fun r e => rows_apply _ _ _ d ((off2_three (lf d)).trans (by rw [e3])) r e) r n
  unfold V
  rw [blk3_eq, addf_apply, h3, lf_lf]
  unfold S2
  rw [blk2_eq, shapeCast_shapeCast, addf_apply, h2, lf_op]
  unfold S1
  rw [blk1_eq, shapeCast_shapeCast, addf_apply, h1, lf_rt]
  unfold S0
  rw [blk0_eq, shapeCast_shapeCast, h0]

/-- An element of the result is the sum of the four devices' contributions. -/
theorem OUT_apply (i n : Fin 1024) : OUT m (ix3 (0 : Fin 1) i n) = ∑ c : Fin 4, contrib m c i n := by
  have hi : i.val / 256 < 4 := by omega
  obtain ⟨d, hd⟩ : ∃ d : Dev nD, d = ⟨i.val / 256, hi⟩ := ⟨_, rfl⟩
  have hrow : rowOf d ⟨i.val % 256, Nat.mod_lt _ (by decide)⟩ = i := by
    subst hd
    exact Fin.ext (Nat.div_add_mod i.val 256)
  have h : OUT m (ix3 (0 : Fin 1) i n) = V m (lf d) (ix2 ⟨i.val % 256, Nat.mod_lt _ (by decide)⟩ n) := by
    subst hd; rfl
  rw [h, V_apply, hrow]
  have key : ∀ (f : Dev nD → EReal) (d : Dev nD), f (lf d) + (f (op d) + (f (rt d) + f d)) = ∑ c : Fin 4, f c := by
    intro f d
    rw [Fin.sum_univ_four]
    have hd : d = 0 ∨ d = 1 ∨ d = 2 ∨ d = 3 := by revert d; decide
    rcases hd with rfl | rfl | rfl | rfl
    · rw [show lf 0 = 3 from by decide, show op 0 = 2 from by decide, show rt 0 = 1 from by decide]; abel
    · rw [show lf 1 = 0 from by decide, show op 1 = 3 from by decide, show rt 1 = 2 from by decide]; abel
    · rw [show lf 2 = 1 from by decide, show op 2 = 0 from by decide, show rt 2 = 3 from by decide]; abel
    · rw [show lf 3 = 2 from by decide, show op 3 = 1 from by decide, show rt 3 = 0 from by decide]; abel
  exact key (fun c => contrib m c i n) d

end Cert.KernelIdeal.Run
-- ==== Proof.RI.Terms.lean ====
/-
# The reference's stages, named

The reference's result is one long term of its arguments; here its stages have names: the table of angles, the
projections, the rotation, the scores, the softmax and the product with the output weights.
-/
module

public import proofs.«01_k».proof.Proof.Gen.ReferenceIdeal.Run

@[expose] public section

noncomputable section

namespace Cert.ReferenceIdeal.Stage

open Cert.ReferenceIdeal Cert.ReferenceIdeal.Gen Idealize.ShloMosaic Idealize.ShloMosaic.TcCoe Idealize.SL.Sem

variable {F : FTy → Type} [FloatOps F]

/-- The frequency of each pair of places of a head. -/
def freq : FVec F S64 .f32 :=
  Host.divf (broadcastInDim S64 ![] bcast_S_S64 (constant S_ .f32 0x3F800000#32))
    (Host.powf (broadcastInDim S64 ![] bcast_S_S64 (constant S_ .f32 0x461C4000#32))
      (Host.divf (sitofp .f32 (addi (broadcastInDim S64 ![] bcast_S_S64 (constantI S_ 32 0#32))
          (muli (broadcastInDim S64 ![] bcast_S_S64 (constantI S_ 32 2#32)) (iotaInDim S64 32 0))))
        (broadcastInDim S64 ![] bcast_S_S64 (constant S_ .f32 0x43000000#32))))

/-- The angles: positions times frequencies. -/
def angles : FVec F S1024x64 .f32 :=
  mulf (broadcastInDim S1024x64 ![0, 1] bcast_S1024x1_S1024x64_0_1
      (sitofp .f32 (broadcastInDim S1024x1 ![0] bcast_S1024_S1024x1_0 (iotaInDim S1024 32 0))))
    (broadcastInDim S1024x64 ![0, 1] bcast_S1x64_S1024x64_0_1 (broadcastInDim S1x64 ![1] bcast_S64_S1x64_1 freq))

/-- A table of pairs, each entry twice, over all heads. -/
def spread (t : FVec F S1024x64 .f32) : FVec F S1x1024x32x128 .f32 :=
  broadcastInDim S1x1024x32x128 ![0, 1, 2, 3] bcast_S1x1024x1x128_S1x1024x32x128_0_1_2_3
    (broadcastInDim S1x1024x1x128 ![1, 3] bcast_S1024x128_S1x1024x1x128_1_3
      (shapeCast S1024x128 (broadcastInDim S1024x64x2 ![0, 1] bcast_S1024x64_S1024x64x2_0_1 t) shapeCasts_S1024x64x2_S1024x128))

/-- A projection, by heads. -/
def project (x : FVec F S1x1024x1024 .bf16) (w : FVec F S1024x4096 .bf16) : FVec F S1x1024x32x128 .f32 :=
  shapeCast S1x1024x32x128 (Host.dotGeneral dot_S1x1024x1024_S1024x4096_S1x1024x4096_2_0_01_1_n_n none
    (extf .f32 x bitsLt_bf16_f32) (extf .f32 w bitsLt_bf16_f32)) shapeCasts_S1x1024x4096_S1x1024x32x128

/-- One member of every pair of places. -/
def member0 (t : FVec F S1x1024x32x128 .f32) : FVec F S1x1024x32x64 .f32 :=
  shapeCast S1x1024x32x64 (extractStridedSlice S1x1024x32x64x1 ![0, 0, 0, 0, 0]
    (shapeCast S1x1024x32x64x2 t shapeCasts_S1x1024x32x128_S1x1024x32x64x2)
    slices_S1x1024x32x64x2_S1x1024x32x64x1_0_0_0_0_0) shapeCasts_S1x1024x32x64x1_S1x1024x32x64

/-- The other member. -/
def member1 (t : FVec F S1x1024x32x128 .f32) : FVec F S1x1024x32x64 .f32 :=
  shapeCast S1x1024x32x64 (extractStridedSlice S1x1024x32x64x1 ![0, 0, 0, 0, 1]
    (shapeCast S1x1024x32x64x2 t shapeCasts_S1x1024x32x128_S1x1024x32x64x2)
    slices_S1x1024x32x64x2_S1x1024x32x64x1_0_0_0_0_1) shapeCasts_S1x1024x32x64x1_S1x1024x32x64

/-- Two members put together as pairs. -/
def pairs (a b : FVec F S1x1024x32x64 .f32) : FVec F S1x1024x32x64x2 .f32 :=
  concatenate S1x1024x32x64x2 4
    [⟨S1x1024x32x64x1, broadcastInDim S1x1024x32x64x1 ![0, 1, 2, 3] bcast_S1x1024x32x64_S1x1024x32x64x1_0_1_2_3 a⟩,
     ⟨S1x1024x32x64x1, broadcastInDim S1x1024x32x64x1 ![0, 1, 2, 3] bcast_S1x1024x32x64_S1x1024x32x64x1_0_1_2_3 b⟩]
    concatenates_S1x1024x32x64x1_S1x1024x32x64x1_S1x1024x32x64x2_d4

/-- Every pair turned by a quarter. -/
def turn (t : FVec F S1x1024x32x128 .f32) : FVec F S1x1024x32x128 .f32 :=
  shapeCast S1x1024x32x128 (pairs (Host.negf (member1 t)) (member0 t)) shapeCasts_S1x1024x32x64x2_S1x1024x32x128

/-- The rotary embedding. -/
def rotate (t : FVec F S1x1024x32x128 .f32) : FVec F S1x1024x32x128 .f32 :=
  addf (mulf t (spread (Host.cos angles))) (mulf (turn t) (spread (Host.sin angles)))

/-- The scaled scores. -/
def scores (q k : FVec F S1x1024x32x128 .f32) : FVec F S1x32x1024x1024 .f32 :=
  mulf (Host.dotGeneral dot_S1x1024x32x128_S1x1024x32x128_S1x32x1024x1024_3_3_1_1_02_02 none q k)
    (broadcastInDim S1x32x1024x1024 ![] bcast_S_S1x32x1024x1024 (constant S_ .f32 0x3DB504F3#32))

/-- A number of each row, along the row. -/
def along (t : FVec F S1x32x1024 .f32) : FVec F S1x32x1024x1024 .f32 :=
  broadcastInDim S1x32x1024x1024 ![0, 1, 2, 3] bcast_S1x32x1024x1_S1x32x1024x1024_0_1_2_3
    (broadcastInDim S1x32x1024x1 ![0, 1, 2] bcast_S1x32x1024_S1x32x1024x1_0_1_2 t)

/-- Each row's greatest score. -/
def peak (s : FVec F S1x32x1024x1024 .f32) : FVec F S1x32x1024 .f32 :=
  Host.reduce FloatOps.maximumf s (constant S_ .f32 0xFF800000#32) reducesTo_S1x32x1024x1024_S1x32x1024_d3 h_S_

/-- Each row's sum. -/
def total (e : FVec F S1x32x1024x1024 .f32) : FVec F S1x32x1024 .f32 :=
  Host.reduceAdd e (constant S_ .f32 0x00000000#32) reducesTo_S1x32x1024x1024_S1x32x1024_d3 h_S_

/-- The exponentials of the scores below the row's greatest. -/
def expo (s : FVec F S1x32x1024x1024 .f32) : FVec F S1x32x1024x1024 .f32 := Host.exp (subf s (along (peak s)))

/-- The softmax of every row. -/
def soft (s : FVec F S1x32x1024x1024 .f32) : FVec F S1x32x1024x1024 .f32 := Host.divf (expo s) (along (total (expo s)))

/-- The heads' weighted means of the values, side by side. -/
def context (v : FVec F S1x1024x32x128 .f32) (w : FVec F S1x32x1024x1024 .f32) : FVec F S1x1024x4096 .f32 :=
  shapeCast S1x1024x4096 (transpose S1x1024x32x128 [0, 3, 1, 2]
    (Host.dotGeneral dot_S1x1024x32x128_S1x32x1024x1024_S1x32x128x1024_1_3_3_2_02_01 none v w)
    transposes_S1x32x128x1024_S1x1024x32x128_0_3_1_2) shapeCasts_S1x1024x32x128_S1x1024x4096

/-- The result. -/
def result (x : FVec F S1x1024x1024 .bf16) (wq wk wv : FVec F S1024x4096 .bf16) (wo : FVec F S4096x1024 .bf16) :
    FVec F S1x1024x1024 .bf16 :=
  truncf .bf16 (Host.dotGeneral dot_S1x1024x4096_S4096x1024_S1x1024x1024_2_0_01_1_n_n none
    (context (project x wv) (soft (scores (rotate (project x wq)) (rotate (project x wk)))))
    (extf .f32 wo bitsLt_bf16_f32)) bitsLt_bf16_f32

/-- The reference's result is the composition of the stages. -/
theorem out_eq (m : (ℓ : Loc nD τ sig) → Buf (Elt F) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := rfl

end Cert.ReferenceIdeal.Stage
-- ==== Proof.RI.Value.lean ====
/-
# The reference's stages on extended reals

Each stage of `Terms` read at its coordinates: batch, position, head and place, or batch, head and two positions.
-/
module

public import proofs.«01_k».proof.Proof.RI.Terms
public import proofs.«01_k».proof.Proof.Rope
public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.Pipeline.Value
public import Mathlib.Tactic.NormNum

@[expose] public section

noncomputable section

namespace Cert.ReferenceIdeal.Stage

open Cert.ReferenceIdeal Cert.ReferenceIdeal.Gen Idealize.ShloMosaic Idealize.ShloMosaic.TcCoe Idealize.SL.Sem
open Idealize.ShloMosaic.ValueIdx
open scoped BigOperators

/-! ## Constants -/

theorem ofBits_128 : Ideal.ofBits .f32 0x43000000#32 = ((128 : ℝ) : EReal) := by
  simp [Ideal.ofBits, Ideal.ieee, -EReal.coe_mul]; norm_num

theorem ofBits_10000 : Ideal.ofBits .f32 0x461C4000#32 = ((10000 : ℝ) : EReal) := by
  simp [Ideal.ofBits, Ideal.ieee, -EReal.coe_mul]; norm_num

theorem ofBits_scale : Ideal.ofBits .f32 0x3DB504F3#32 = ((Attention.scale : ℝ) : EReal) := by
  unfold Attention.scale
  simp [Ideal.ofBits, Ideal.ieee, -EReal.coe_mul]; norm_num

theorem ofBits_bot : Ideal.ofBits .f32 0xFF800000#32 = ⊥ := by
  simp [Ideal.ofBits, Ideal.ieee]

/-! ## Products over one axis -/

/-- A product that sums over one axis, read at an index whose operands' indices are known. -/
theorem dot_apply {sl sr so : Shape} (D : DotDims sl sr so) (n : ℕ) (hr : D.contr.rank = 1)
    (hs : D.contr.size ⟨0, by omega⟩ = n) (L : FVec Ideal sl .f32) (R : FVec Ideal sr .f32) (j : so.Idx)
    (l : Fin n → sl.Idx) (r : Fin n → sr.Idx)
    (hl : ∀ k a, (D.lhsIdx j ((contrEquiv1 D n hr hs).symm k) a).val = (l k a).val)
    (hR : ∀ k a, (D.rhsIdx j ((contrEquiv1 D n hr hs).symm k) a).val = (r k a).val) :
    Host.dotGeneral D none L R j = ∑ k : Fin n, L (l k) * R (r k) := by
  simp only [Host.dotGeneral]
  rw [Ideal.dotGeneral_apply, ← Equiv.sum_comp (contrEquiv1 D n hr hs).symm]
  refine Finset.sum_congr rfl fun k _ => ?_
  rw [show D.lhsIdx j ((contrEquiv1 D n hr hs).symm k) = l k from funext fun a => Fin.ext (hl k a),
    show D.rhsIdx j ((contrEquiv1 D n hr hs).symm k) = r k from funext fun a => Fin.ext (hR k a)]

/-! ## Columns -/

/-- Column of place `d` in head `h` of 32. -/
def wide (h : Fin 32) (d : Fin 128) : Fin 4096 := ⟨128 * h.val + d.val, by omega⟩

/-- The pair of a place. -/
def half (d : Fin 128) : Fin 64 := ⟨d.val / 2, by omega⟩

/-- The member of its pair that a place is. -/
def side (d : Fin 128) : Fin 2 := ⟨d.val % 2, by omega⟩

/-- The other place of a place's pair. -/
def mate (d : Fin 128) : Fin 128 := ⟨if d.val % 2 = 0 then d.val + 1 else d.val - 1, by split <;> omega⟩

/-! ## The angles -/

theorem sitofp_small (n : ℕ) (h : n < 1024) :
    (FloatOps.sitofp .f32 (BitVec.ofNat 32 n) : Ideal .f32) = (((n : ℕ) : ℝ) : EReal) := by
  show ((((BitVec.ofNat 32 n).toInt : ℝ)) : EReal) = _
  rw [BitVec.toInt_eq_toNat_cond, BitVec.toNat_ofNat, Nat.mod_eq_of_lt (by omega), if_pos (by omega)]
  norm_cast

theorem pair_word : ∀ h : Fin 64, IntOp.addi 0#32 (IntOp.muli 2#32 (BitVec.ofNat 32 h.val)) = BitVec.ofNat 32 (2 * h.val) := by
  decide +kernel

theorem freq_apply (h : Fin 64) :
    (freq : FVec Ideal S64 .f32) (ix1 h) = ((1 / (10000 : ℝ) ^ (((2 * h.val : ℕ) : ℝ) / 128) : ℝ) : EReal) := by
  have e : (freq : FVec Ideal S64 .f32) (ix1 h) = Ideal.div (Ideal.ofBits .f32 0x3F800000#32)
      (Ideal.pow (Ideal.ofBits .f32 0x461C4000#32)
        (Ideal.div (FloatOps.sitofp (F := Ideal) .f32 (IntOp.addi 0#32 (IntOp.muli 2#32 (BitVec.ofNat 32 h.val))))
          (Ideal.ofBits .f32 0x43000000#32))) := rfl
  rw [e, pair_word, sitofp_small _ (by omega), ofBits_128, ofBits_10000, Ideal.ofBits_one_f32,
    Ideal.div_coe (by norm_num : (128 : ℝ) ≠ 0), ← EReal.coe_mul]
  have hp : Ideal.pow ((10000 : ℝ) : EReal) ((((2 * h.val : ℕ) : ℝ) * (1 / 128) : ℝ) : EReal)
      = (((10000 : ℝ) ^ (((2 * h.val : ℕ) : ℝ) / 128) : ℝ) : EReal) := by
    rw [mul_one_div]; rfl
  rw [hp, Ideal.div_coe (Real.rpow_pos_of_pos (by norm_num) _).ne', one_mul]

theorem angles_apply (i : Fin 1024) (d : Fin 128) :
    (angles : FVec Ideal S1024x64 .f32) (ix2 i (half d)) = ((Attention.angle i.val d.val : ℝ) : EReal) := by
  have h1 : broadcastInDim S1024x64 ![0, 1] bcast_S1024x1_S1024x64_0_1
      (sitofp .f32 (broadcastInDim S1024x1 ![0] bcast_S1024_S1024x1_0 (iotaInDim S1024 32 0)) : FVec Ideal S1024x1 .f32) (ix2 i (half d))
      = ((i.val : ℝ) : EReal) := by
    refine (broadcastInDim_apply _ _ _ _ (ix2 i (0 : Fin 1)) ?_).trans ?_
    · intro a
      match a with
      | ⟨0, _⟩ => rfl
      | ⟨1, _⟩ => rfl
    · rw [sitofp_apply, broadcastInDim_apply ![0] bcast_S1024_S1024x1_0 (iotaInDim S1024 32 0) (ix2 i (0 : Fin 1)) (ix1 i)
        (fun a => match a with | ⟨0, _⟩ => rfl)]
      exact sitofp_small i.val i.isLt
  have h2 : broadcastInDim S1024x64 ![0, 1] bcast_S1x64_S1024x64_0_1
      (broadcastInDim S1x64 ![1] bcast_S64_S1x64_1 (freq : FVec Ideal S64 .f32)) (ix2 i (half d)) = freq (ix1 (half d)) := by
    refine (broadcastInDim_apply _ _ _ _ (ix2 (0 : Fin 1) (half d)) ?_).trans
      (broadcastInDim_apply _ _ _ _ (ix1 (half d)) ?_)
    · intro a
      match a with
      | ⟨0, _⟩ => rfl
      | ⟨1, _⟩ => rfl
    · intro a
      match a with
      | ⟨0, _⟩ => rfl
  unfold angles
  rw [mulf_apply, h1, h2, freq_apply, ← EReal.coe_mul, Attention.angle_eq]
  rfl

/-- A table over all heads reads the table at the pair of the place. -/
theorem spread_apply (t : FVec Ideal S1024x64 .f32) (i : Fin 1024) (h : Fin 32) (d : Fin 128) :
    spread t (ix4 (0 : Fin 1) i h d) = t (ix2 i (half d)) := by
  refine (broadcastInDim_apply _ _ _ _ (ix4 (0 : Fin 1) i (0 : Fin 1) d) ?_).trans
    ((broadcastInDim_apply _ _ _ _ (ix2 i d) ?_).trans
      ((shapeCast_apply _ shapeCasts_S1024x64x2_S1024x128 (ix2 i d) (ix3 i (half d) (side d)) ?_).trans
        (broadcastInDim_apply _ _ _ _ (ix2 i (half d)) ?_)))
  · intro a
    match a with
    | ⟨0, _⟩ => rfl
    | ⟨1, _⟩ => rfl
    | ⟨2, _⟩ => rfl
    | ⟨3, _⟩ => rfl
  · intro a
    match a with
    | ⟨0, _⟩ => rfl
    | ⟨1, _⟩ => rfl
  · rw [Shape.rowMajor_val_three, Shape.rowMajor_val_two]
    show (i.val * 64 + d.val / 2) * 2 + d.val % 2 = i.val * 128 + d.val
    omega
  · intro a
    match a with
    | ⟨0, _⟩ => rfl
    | ⟨1, _⟩ => rfl

/-! ## The projections and the rotation -/

theorem project_apply (x : FVec Ideal S1x1024x1024 .bf16) (w : FVec Ideal S1024x4096 .bf16) (i : Fin 1024) (h : Fin 32)
    (d : Fin 128) :
    project x w (ix4 (0 : Fin 1) i h d) = ∑ k : Fin 1024, x (ix3 (0 : Fin 1) i k) * w (ix2 k (wide h d)) := by
  refine (shapeCast_apply _ shapeCasts_S1x1024x4096_S1x1024x32x128 (ix4 (0 : Fin 1) i h d) (ix3 (0 : Fin 1) i (wide h d)) ?_).trans
    ((dot_apply dot_S1x1024x1024_S1024x4096_S1x1024x4096_2_0_01_1_n_n 1024 rfl rfl _ _ (ix3 (0 : Fin 1) i (wide h d))
      (fun k => ix3 (0 : Fin 1) i k) (fun k => ix2 k (wide h d)) ?_ ?_).trans rfl)
  · rw [Shape.rowMajor_val_three, Shape.rowMajor_val_four]
    show (0 * 1024 + i.val) * 4096 + (128 * h.val + d.val) = ((0 * 1024 + i.val) * 32 + h.val) * 128 + d.val
    omega
  · intro k a
    have hk := contrEquiv1_symm_val dot_S1x1024x1024_S1024x4096_S1x1024x4096_2_0_01_1_n_n 1024 rfl rfl k
    match a with
    | ⟨0, _⟩ => rfl
    | ⟨1, _⟩ => rfl
    | ⟨2, _⟩ => exact hk
  · intro k a
    have hk := contrEquiv1_symm_val dot_S1x1024x1024_S1024x4096_S1x1024x4096_2_0_01_1_n_n 1024 rfl rfl k
    match a with
    | ⟨0, _⟩ => exact hk
    | ⟨1, _⟩ => rfl

theorem member0_apply (t : FVec Ideal S1x1024x32x128 .f32) (i : Fin 1024) (h : Fin 32) (p : Fin 64) :
    member0 t (ix4 (0 : Fin 1) i h p) = t (ix4 (0 : Fin 1) i h (⟨2 * p.val, by omega⟩ : Fin 128)) := by
  refine (shapeCast_apply _ shapeCasts_S1x1024x32x64x1_S1x1024x32x64 (ix4 (0 : Fin 1) i h p) (ix5 (0 : Fin 1) i h p (0 : Fin 1)) ?_).trans
    ((slice5_axis4_apply 0 _ slices_S1x1024x32x64x2_S1x1024x32x64x1_0_0_0_0_0 (0 : Fin 1) i h p (0 : Fin 1) (0 : Fin 2) rfl).trans
      (shapeCast_apply _ shapeCasts_S1x1024x32x128_S1x1024x32x64x2 _ _ ?_))
  · rw [Shape.rowMajor_val_five, Shape.rowMajor_val_four]
    show (((0 * 1024 + i.val) * 32 + h.val) * 64 + p.val) * 1 + 0 = ((0 * 1024 + i.val) * 32 + h.val) * 64 + p.val
    omega
  · rw [Shape.rowMajor_val_five, Shape.rowMajor_val_four]
    show ((0 * 1024 + i.val) * 32 + h.val) * 128 + 2 * p.val = (((0 * 1024 + i.val) * 32 + h.val) * 64 + p.val) * 2 + 0
    omega

theorem member1_apply (t : FVec Ideal S1x1024x32x128 .f32) (i : Fin 1024) (h : Fin 32) (p : Fin 64) :
    member1 t (ix4 (0 : Fin 1) i h p) = t (ix4 (0 : Fin 1) i h (⟨2 * p.val + 1, by omega⟩ : Fin 128)) := by
  refine (shapeCast_apply _ shapeCasts_S1x1024x32x64x1_S1x1024x32x64 (ix4 (0 : Fin 1) i h p) (ix5 (0 : Fin 1) i h p (0 : Fin 1)) ?_).trans
    ((slice5_axis4_apply 1 _ slices_S1x1024x32x64x2_S1x1024x32x64x1_0_0_0_0_1 (0 : Fin 1) i h p (0 : Fin 1) (1 : Fin 2) rfl).trans
      (shapeCast_apply _ shapeCasts_S1x1024x32x128_S1x1024x32x64x2 _ _ ?_))
  · rw [Shape.rowMajor_val_five, Shape.rowMajor_val_four]
    show (((0 * 1024 + i.val) * 32 + h.val) * 64 + p.val) * 1 + 0 = ((0 * 1024 + i.val) * 32 + h.val) * 64 + p.val
    omega
  · rw [Shape.rowMajor_val_five, Shape.rowMajor_val_four]
    show ((0 * 1024 + i.val) * 32 + h.val) * 128 + (2 * p.val + 1) = (((0 * 1024 + i.val) * 32 + h.val) * 64 + p.val) * 2 + 1
    omega

theorem pairs_apply0 (a b : FVec Ideal S1x1024x32x64 .f32) (i : Fin 1024) (h : Fin 32) (p : Fin 64) :
    pairs a b (ix5 (0 : Fin 1) i h p (0 : Fin 2)) = a (ix4 (0 : Fin 1) i h p) := by
  refine (concatenate_pair_apply_left (t := S1x1024x32x64x2) 4 _ _
    concatenates_S1x1024x32x64x1_S1x1024x32x64x1_S1x1024x32x64x2_d4 (ix5 (0 : Fin 1) i h p (0 : Fin 2)) rfl
    (ix5 (0 : Fin 1) i h p (0 : Fin 1)) ?_).trans (broadcastInDim_apply _ _ _ _ (ix4 (0 : Fin 1) i h p) ?_)
  · intro c
    match c with
    | ⟨0, _⟩ => rfl
    | ⟨1, _⟩ => rfl
    | ⟨2, _⟩ => rfl
    | ⟨3, _⟩ => rfl
    | ⟨4, _⟩ => rfl
  · intro c
    match c with
    | ⟨0, _⟩ => rfl
    | ⟨1, _⟩ => rfl
    | ⟨2, _⟩ => rfl
    | ⟨3, _⟩ => rfl

theorem pairs_apply1 (a b : FVec Ideal S1x1024x32x64 .f32) (i : Fin 1024) (h : Fin 32) (p : Fin 64) :
    pairs a b (ix5 (0 : Fin 1) i h p (1 : Fin 2)) = b (ix4 (0 : Fin 1) i h p) := by
  refine (concatenate_pair_apply_right (t := S1x1024x32x64x2) 4 _ _
    concatenates_S1x1024x32x64x1_S1x1024x32x64x1_S1x1024x32x64x2_d4 (ix5 (0 : Fin 1) i h p (1 : Fin 2)) rfl rfl
    (ix5 (0 : Fin 1) i h p (0 : Fin 1)) ?_ rfl).trans (broadcastInDim_apply _ _ _ _ (ix4 (0 : Fin 1) i h p) ?_)
  · intro c hc
    match c with
    | ⟨0, _⟩ => rfl
    | ⟨1, _⟩ => rfl
    | ⟨2, _⟩ => rfl
    | ⟨3, _⟩ => rfl
    | ⟨4, _⟩ => exact absurd rfl hc
  · intro c
    match c with
    | ⟨0, _⟩ => rfl
    | ⟨1, _⟩ => rfl
    | ⟨2, _⟩ => rfl
    | ⟨3, _⟩ => rfl

/-- Every pair turned by a quarter: an even place reads its mate with the sign changed, an odd place reads its mate. -/
theorem turn_apply (t : FVec Ideal S1x1024x32x128 .f32) (i : Fin 1024) (h : Fin 32) (d : Fin 128) :
    turn t (ix4 (0 : Fin 1) i h d)
      = if d.val % 2 = 0 then -t (ix4 (0 : Fin 1) i h (mate d)) else t (ix4 (0 : Fin 1) i h (mate d)) := by
  have e : turn t (ix4 (0 : Fin 1) i h d)
      = pairs (Host.negf (member1 t)) (member0 t) (ix5 (0 : Fin 1) i h (half d) (side d)) := by
    refine shapeCast_apply _ shapeCasts_S1x1024x32x64x2_S1x1024x32x128 _ _ ?_
    rw [Shape.rowMajor_val_five, Shape.rowMajor_val_four]
    show (((0 * 1024 + i.val) * 32 + h.val) * 64 + d.val / 2) * 2 + d.val % 2 = ((0 * 1024 + i.val) * 32 + h.val) * 128 + d.val
    omega
  rw [e]
  by_cases hp : d.val % 2 = 0
  · have hs : side d = 0 := Fin.ext hp
    have hm : mate d = ⟨2 * (half d).val + 1, by have := (half d).isLt; omega⟩ :=
      Fin.ext ((if_pos hp).trans (show d.val + 1 = 2 * (d.val / 2) + 1 by omega))
    rw [if_pos hp, hs, pairs_apply0, hm, ← member1_apply t i h (half d)]
    rfl
  · have hs : side d = 1 := Fin.ext (show d.val % 2 = 1 by omega)
    have hm : mate d = ⟨2 * (half d).val, by have := (half d).isLt; omega⟩ :=
      Fin.ext ((if_neg hp).trans (show d.val - 1 = 2 * (d.val / 2) by omega))
    rw [if_neg hp, hs, pairs_apply1, hm, ← member0_apply t i h (half d)]

/-- The rotary embedding at a place. -/
theorem rotate_apply (t : FVec Ideal S1x1024x32x128 .f32) (i : Fin 1024) (h : Fin 32) (d : Fin 128) :
    rotate t (ix4 (0 : Fin 1) i h d)
      = t (ix4 (0 : Fin 1) i h d) * ((Real.cos (Attention.angle i.val d.val) : ℝ) : EReal)
        + (if d.val % 2 = 0 then -t (ix4 (0 : Fin 1) i h (mate d)) else t (ix4 (0 : Fin 1) i h (mate d)))
          * ((Real.sin (Attention.angle i.val d.val) : ℝ) : EReal) := by
  have hc : (Host.cos angles : FVec Ideal S1024x64 .f32) (ix2 i (half d)) = ((Real.cos (Attention.angle i.val d.val) : ℝ) : EReal) :=
    congrArg Ideal.cos (angles_apply i d)
  have hs : (Host.sin angles : FVec Ideal S1024x64 .f32) (ix2 i (half d)) = ((Real.sin (Attention.angle i.val d.val) : ℝ) : EReal) :=
    congrArg Ideal.sin (angles_apply i d)
  unfold rotate
  rw [addf_apply, mulf_apply, mulf_apply, spread_apply, spread_apply, hc, hs, turn_apply]

/-! ## The softmax -/

theorem scores_apply (q k : FVec Ideal S1x1024x32x128 .f32) (h : Fin 32) (i j : Fin 1024) :
    scores q k (ix4 (0 : Fin 1) h i j)
      = (∑ d : Fin 128, q (ix4 (0 : Fin 1) i h d) * k (ix4 (0 : Fin 1) j h d)) * ((Attention.scale : ℝ) : EReal) := by
  have hd := dot_apply dot_S1x1024x32x128_S1x1024x32x128_S1x32x1024x1024_3_3_1_1_02_02 128 rfl rfl q k
    (ix4 (0 : Fin 1) h i j) (fun d => ix4 (0 : Fin 1) i h d) (fun d => ix4 (0 : Fin 1) j h d) (by
      intro d a
      have hk := contrEquiv1_symm_val dot_S1x1024x32x128_S1x1024x32x128_S1x32x1024x1024_3_3_1_1_02_02 128 rfl rfl d
      match a with
      | ⟨0, _⟩ => rfl
      | ⟨1, _⟩ => rfl
      | ⟨2, _⟩ => rfl
      | ⟨3, _⟩ => exact hk) (by
      intro d a
      have hk := contrEquiv1_symm_val dot_S1x1024x32x128_S1x1024x32x128_S1x32x1024x1024_3_3_1_1_02_02 128 rfl rfl d
      match a with
      | ⟨0, _⟩ => rfl
      | ⟨1, _⟩ => rfl
      | ⟨2, _⟩ => rfl
      | ⟨3, _⟩ => exact hk)
  unfold scores
  rw [mulf_apply, hd, broadcastInDim_scalar_apply, constant_apply, ofBits_scale]

theorem along_apply (t : FVec Ideal S1x32x1024 .f32) (h : Fin 32) (i j : Fin 1024) :
    along t (ix4 (0 : Fin 1) h i j) = t (ix3 (0 : Fin 1) h i) := by
  refine (broadcastInDim_apply _ _ _ _ (ix4 (0 : Fin 1) h i (0 : Fin 1)) ?_).trans
    (broadcastInDim_apply _ _ _ _ (ix3 (0 : Fin 1) h i) ?_)
  · intro a
    match a with
    | ⟨0, _⟩ => rfl
    | ⟨1, _⟩ => rfl
    | ⟨2, _⟩ => rfl
    | ⟨3, _⟩ => rfl
  · intro a
    match a with
    | ⟨0, _⟩ => rfl
    | ⟨1, _⟩ => rfl
    | ⟨2, _⟩ => rfl

/-- The last axis of the scores is reduced. -/
theorem reduces_last : S1x32x1024x1024.Reduces [3] S1x32x1024 := by decide

theorem lift_last (h : Fin 32) (i : Fin 1024) (j : Fin 1024) :
    reduces_last.lift (ix3 (0 : Fin 1) h i) j = ix4 (0 : Fin 1) h i j := by
  funext a
  match a with
  | ⟨0, _⟩ => rfl
  | ⟨1, _⟩ => rfl
  | ⟨2, _⟩ => rfl
  | ⟨3, _⟩ => rfl

theorem peak_apply (s : FVec Ideal S1x32x1024x1024 .f32) (h : Fin 32) (i : Fin 1024) :
    peak s (ix3 (0 : Fin 1) h i) = Finset.univ.fold max ⊥ (fun j : Fin 1024 => s (ix4 (0 : Fin 1) h i j)) := by
  have e := Host.reduce_eq_fold_single (max : EReal → EReal → EReal) s (constant (F := Ideal) S_ .f32 0xFF800000#32)
    reducesTo_S1x32x1024x1024_S1x32x1024_d3 reduces_last h_S_ (ix3 (0 : Fin 1) h i)
  rw [constant_apply, ofBits_bot] at e
  refine Eq.trans e ?_
  exact congrArg (fun f => Finset.univ.fold max ⊥ f) (funext fun j => congrArg s (lift_last h i j))

theorem total_apply (e : FVec Ideal S1x32x1024x1024 .f32) (h : Fin 32) (i : Fin 1024) :
    total e (ix3 (0 : Fin 1) h i) = ∑ j : Fin 1024, e (ix4 (0 : Fin 1) h i j) := by
  unfold total
  rw [hostReduceAdd_apply, Ideal.hostReduceAdd_single _ reduces_last, constant_apply, Ideal.ofBits_zero_f32, zero_add]
  exact Finset.sum_congr rfl fun j _ => congrArg e (lift_last h i j)

theorem expo_apply (s : FVec Ideal S1x32x1024x1024 .f32) (h : Fin 32) (i j : Fin 1024) :
    expo s (ix4 (0 : Fin 1) h i j)
      = Ideal.exp (s (ix4 (0 : Fin 1) h i j) - Finset.univ.fold max ⊥ (fun j : Fin 1024 => s (ix4 (0 : Fin 1) h i j))) := by
  refine congrArg Ideal.exp ?_
  rw [subf_apply, along_apply, peak_apply]

theorem soft_apply (s : FVec Ideal S1x32x1024x1024 .f32) (h : Fin 32) (i j : Fin 1024) :
    soft s (ix4 (0 : Fin 1) h i j)
      = Ideal.div (expo s (ix4 (0 : Fin 1) h i j)) (∑ j : Fin 1024, expo s (ix4 (0 : Fin 1) h i j)) := by
  refine congrArg (Ideal.div _) ?_
  rw [along_apply, total_apply]

/-! ## The result -/

/-- The head of a column of 4096. -/
def wideHead (e : Fin 4096) : Fin 32 := ⟨e.val / 128, by omega⟩

/-- A column's place in its head. -/
def wideDim (e : Fin 4096) : Fin 128 := ⟨e.val % 128, by omega⟩

theorem context_apply (v : FVec Ideal S1x1024x32x128 .f32) (w : FVec Ideal S1x32x1024x1024 .f32) (i : Fin 1024)
    (e : Fin 4096) :
    context v w (ix3 (0 : Fin 1) i e)
      = ∑ j : Fin 1024, v (ix4 (0 : Fin 1) j (wideHead e) (wideDim e)) * w (ix4 (0 : Fin 1) (wideHead e) i j) := by
  refine (shapeCast_apply _ shapeCasts_S1x1024x32x128_S1x1024x4096 (ix3 (0 : Fin 1) i e)
    (ix4 (0 : Fin 1) i (wideHead e) (wideDim e)) ?_).trans
    ((transpose_apply _ _ transposes_S1x32x128x1024_S1x1024x32x128_0_3_1_2 _
      (ix4 (0 : Fin 1) (wideHead e) (wideDim e) i) ?_).trans
      (dot_apply dot_S1x1024x32x128_S1x32x1024x1024_S1x32x128x1024_1_3_3_2_02_01 1024 rfl rfl v w
        (ix4 (0 : Fin 1) (wideHead e) (wideDim e) i) (fun j => ix4 (0 : Fin 1) j (wideHead e) (wideDim e))
        (fun j => ix4 (0 : Fin 1) (wideHead e) i j) ?_ ?_))
  · rw [Shape.rowMajor_val_three, Shape.rowMajor_val_four]
    show ((0 * 1024 + i.val) * 32 + e.val / 128) * 128 + e.val % 128 = (0 * 1024 + i.val) * 4096 + e.val
    omega
  · intro a
    match a with
    | ⟨0, _⟩ => rfl
    | ⟨1, _⟩ => rfl
    | ⟨2, _⟩ => rfl
    | ⟨3, _⟩ => rfl
  · intro k a
    have hk := contrEquiv1_symm_val dot_S1x1024x32x128_S1x32x1024x1024_S1x32x128x1024_1_3_3_2_02_01 1024 rfl rfl k
    match a with
    | ⟨0, _⟩ => rfl
    | ⟨1, _⟩ => exact hk
    | ⟨2, _⟩ => rfl
    | ⟨3, _⟩ => rfl
  · intro k a
    have hk := contrEquiv1_symm_val dot_S1x1024x32x128_S1x32x1024x1024_S1x32x128x1024_1_3_3_2_02_01 1024 rfl rfl k
    match a with
    | ⟨0, _⟩ => rfl
    | ⟨1, _⟩ => rfl
    | ⟨2, _⟩ => rfl
    | ⟨3, _⟩ => exact hk

theorem result_apply (x : FVec Ideal S1x1024x1024 .bf16) (wq wk wv : FVec Ideal S1024x4096 .bf16)
    (wo : FVec Ideal S4096x1024 .bf16) (i n : Fin 1024) :
    result x wq wk wv wo (ix3 (0 : Fin 1) i n)
      = ∑ e : Fin 4096, context (project x wv) (soft (scores (rotate (project x wq)) (rotate (project x wk)))) (ix3 (0 : Fin 1) i e)
          * wo (ix2 e n) := by
  refine (dot_apply dot_S1x1024x4096_S4096x1024_S1x1024x1024_2_0_01_1_n_n 4096 rfl rfl _ _ (ix3 (0 : Fin 1) i n)
    (fun e => ix3 (0 : Fin 1) i e) (fun e => ix2 e n) ?_ ?_).trans rfl
  · intro k a
    have hk := contrEquiv1_symm_val dot_S1x1024x4096_S4096x1024_S1x1024x1024_2_0_01_1_n_n 4096 rfl rfl k
    match a with
    | ⟨0, _⟩ => rfl
    | ⟨1, _⟩ => rfl
    | ⟨2, _⟩ => exact hk
  · intro k a
    have hk := contrEquiv1_symm_val dot_S1x1024x4096_S4096x1024_S1x1024x1024_2_0_01_1_n_n 4096 rfl rfl k
    match a with
    | ⟨0, _⟩ => exact hk
    | ⟨1, _⟩ => rfl

end Cert.ReferenceIdeal.Stage
-- ==== Proof.KI.RopeValue.lean ====
/-
# The projections and the rotary embedding on extended reals

A device's rotated queries and keys, its values and its output weights, read at a row and a column.
-/
module

public import proofs.«01_k».proof.Proof.KI.HeadValue
public import proofs.«01_k».proof.Proof.Rope

@[expose] public section

noncomputable section

namespace Cert.KernelIdeal.Run

open Cert.KernelIdeal Cert.KernelIdeal.Gen
open Idealize.ShloMosaic Idealize.ShloMosaic.TcCoe Idealize.SL.Sem Idealize.ShloMosaic.ValueIdx
open scoped BigOperators

/-! ## The projections -/

/-- The product of the activations with a device's block of weights. -/
def proj (x : FVec Ideal S1x1024x1024 .bf16) (w : FVec Ideal S1024x1024 .bf16) (i e : Fin 1024) : EReal :=
  ∑ k : Fin 1024, x (ix3 (0 : Fin 1) i k) * w (ix2 k e)

theorem pay1_apply (x : FVec Ideal S1x1024x1024 .bf16) (i k : Fin 1024) : k0_pay1 (F := Ideal) x (ix2 i k) = x (ix3 (0 : Fin 1) i k) :=
  shapeCast_1ab_ab_apply x shapeCasts_S1x1024x1024_S1024x1024 i k

theorem pay3_apply (x : FVec Ideal S1x1024x1024 .bf16) (w : FVec Ideal S1024x1024 .bf16) (i e : Fin 1024) :
    k0_pay3 (F := Ideal) x w (ix2 i e) = proj x w i e := by
  refine (Ideal.matmul_plain_apply (M := 1024) (K := 1024) (N := 1024) none _ _ _ i e).trans ?_
  rw [constant_apply, Ideal.ofBits_zero_f32, zero_add, shapeCast_self]
  refine Finset.sum_congr rfl fun k _ => ?_
  rw [pay1_apply]

theorem pay4_apply (x : FVec Ideal S1x1024x1024 .bf16) (w : FVec Ideal S1024x1024 .bf16) (i e : Fin 1024) :
    k0_pay4 (F := Ideal) x w (ix2 i e) = proj x w i e := pay3_apply x w i e

/-- The values are the projection itself. -/
theorem vV_apply (x : FVec Ideal S1x1024x1024 .bf16) (w : FVec Ideal S1024x1024 .bf16) (i e : Fin 1024) :
    vV (F := Ideal) x w (ix2 i e) = proj x w i e := pay3_apply x w i e

/-- The output weights are used as they are. -/
theorem oV_eq (w : FVec Ideal S1024x1024 .bf16) : oV (F := Ideal) w = w := shapeCast_self w _

/-! ## The angles -/

/-- The even place of the pair of a place of a head. -/
theorem place_word : ∀ d : Fin 128,
    IntOp.muli (Scalar.select (IntOp.andi (IntOp.cmpi .ne
        (IntOp.subi ((IntOp.cmpi .sgt (BitVec.ofNat 32 d.val) 0#32).setWidth 32)
          ((IntOp.cmpi .slt (BitVec.ofNat 32 d.val) 0#32).setWidth 32))
        (Scalar.subi (Scalar.extui (Scalar.cmpi .sgt 2#32 0#32)) (Scalar.extui (Scalar.cmpi .slt 2#32 0#32))))
        (IntOp.cmpi .ne (IntOp.remsi .vector (BitVec.ofNat 32 d.val) 2#32) 0#32))
      (IntOp.subi (IntOp.divsi .vector (BitVec.ofNat 32 d.val) 2#32) 1#32)
      (IntOp.divsi .vector (BitVec.ofNat 32 d.val) 2#32)) 2#32 = BitVec.ofNat 32 (2 * (d.val / 2)) := by
  decide +kernel

theorem toInt_ofNat_small (n : ℕ) (h : n < 1024) : (BitVec.ofNat 32 n).toInt = (n : ℤ) := by
  rw [BitVec.toInt_eq_toNat_cond, BitVec.toNat_ofNat, Nat.mod_eq_of_lt (by omega), if_pos (by omega)]

theorem sitofp_small (n : ℕ) (h : n < 1024) :
    (FloatOps.sitofp .f32 (BitVec.ofNat 32 n) : Ideal .f32) = (((n : ℕ) : ℝ) : EReal) := by
  show ((((BitVec.ofNat 32 n).toInt : ℝ)) : EReal) = _
  rw [toInt_ofNat_small n h]
  norm_cast

/-- The kernel's angles. -/
def angles : FVec Ideal S1024x128 .f32 :=
  k0_pay9 k0_pay6 (iota .tc S1024x128 32 [1] iota_S1024x128_d1_w32) 2#32 k0_pay7 k0_pay8 (Scalar.cmpi .sgt 2#32 0#32)

theorem angles_apply (i : Fin 1024) (d : Fin 128) :
    angles (ix2 i d) = ((Attention.angle i.val d.val : ℝ) : EReal) := by
  have hrow : iota .tc S1024x128 32 [0] iota_S1024x128_d0_w32 (ix2 i d) = BitVec.ofNat 32 i.val :=
    congrArg (BitVec.ofNat 32) (show 0 * 1024 + i.val = i.val by omega)
  have hcol : iota .tc S1024x128 32 [1] iota_S1024x128_d1_w32 (ix2 i d) = BitVec.ofNat 32 d.val :=
    congrArg (BitVec.ofNat 32) (show 0 * 128 + d.val = d.val by omega)
  have hword := place_word d
  rw [← hcol] at hword
  have h : angles (ix2 i d) = FloatOps.mulf (F := Ideal) (FloatOps.sitofp .f32 (BitVec.ofNat 32 i.val))
      (FloatOps.exp (FloatOps.mulf (FloatOps.sitofp .f32 (BitVec.ofNat 32 (2 * (d.val / 2))))
        (Named.named κ "rope_rate" 0xBD935D8E#32))) := by
    rw [← hrow, ← hword]
    rfl
  rw [h, sitofp_small _ i.isLt, sitofp_small _ (by omega : 2 * (d.val / 2) < 1024),
    IdealRules.named_const.ideal_named_scalar _ _ _ _ rfl]
  unfold Attention.angle
  push_cast
  rfl

/-- Eight copies of the table fill the columns. -/
theorem copies_fill (f : Fin 8 → FVec Ideal S1024x128 .f32) :
    Shape.Concatenates ((List.ofFn fun n : Fin 8 => (⟨S1024x128, f n⟩ : (s : Shape) × (s.Idx → Ideal .f32))).map (·.1))
      S1024x1024 1 :=
  concatenates_S1024x128_S1024x128_S1024x128_S1024x128_S1024x128_S1024x128_S1024x128_S1024x128_S1024x1024_d1

/-- The kernel's cosines over all columns. -/
theorem cosV_apply (i e : Fin 1024) :
    (cosV : FVec Ideal S1024x1024 .bf16) (ix2 i e) = ((Real.cos (Attention.angle i.val (e.val % 128)) : ℝ) : EReal) := by
  refine (concatenate_ofFn_apply (s₁ := S1024x128) (t := S1024x1024) 1 (fun _ : Fin 8 => cos angles) (copies_fill _) rfl 128 rfl
    (ix2 i e) (Attention.headOf e) rfl (ix2 i (Attention.dimOf e)) rfl ?_).trans ?_
  · intro b hb
    match b with
    | ⟨0, _⟩ => rfl
    | ⟨1, _⟩ => exact absurd rfl hb
  · exact (congrArg Ideal.cos (angles_apply i (Attention.dimOf e))).trans rfl

/-- The kernel's sines over all columns. -/
theorem sinV_apply (i e : Fin 1024) :
    (sinV : FVec Ideal S1024x1024 .bf16) (ix2 i e) = ((Real.sin (Attention.angle i.val (e.val % 128)) : ℝ) : EReal) := by
  refine (concatenate_ofFn_apply (s₁ := S1024x128) (t := S1024x1024) 1 (fun _ : Fin 8 => sin angles) (copies_fill _) rfl 128 rfl
    (ix2 i e) (Attention.headOf e) rfl (ix2 i (Attention.dimOf e)) rfl ?_).trans ?_
  · intro b hb
    match b with
    | ⟨0, _⟩ => rfl
    | ⟨1, _⟩ => exact absurd rfl hb
  · exact (congrArg Ideal.sin (angles_apply i (Attention.dimOf e))).trans rfl

/-! ## The rotation -/

theorem mask_word : ∀ e : Fin 1024,
    IntOp.cmpi .eq (Scalar.select (IntOp.andi (IntOp.xori
        (IntOp.cmpi .slt (IntOp.remsi .vector (BitVec.ofNat 32 e.val) 2#32) 0#32) (Scalar.cmpi .slt 2#32 0#32))
        (IntOp.cmpi .ne (IntOp.remsi .vector (BitVec.ofNat 32 e.val) 2#32) 0#32))
      (IntOp.addi (IntOp.remsi .vector (BitVec.ofNat 32 e.val) 2#32) 2#32)
      (IntOp.remsi .vector (BitVec.ofNat 32 e.val) 2#32)) 0#32 = if e.val % 2 = 0 then 1#1 else 0#1 := by
  decide +kernel

/-- The mask of the even columns. -/
theorem mask_apply (i e : Fin 1024) : k0_pay12 (ix2 i e) = if e.val % 2 = 0 then 1#1 else 0#1 := by
  have hcol : iota .tc S1024x1024 32 [1] iota_S1024x1024_d1_w32 (ix2 i e) = BitVec.ofNat 32 e.val :=
    congrArg (BitVec.ofNat 32) (show 0 * 1024 + e.val = e.val by omega)
  have hword := mask_word e
  rw [← hcol] at hword
  exact Eq.trans rfl hword

/-- All columns but the first, then the first: below the last column, the next column. -/
theorem next_apply (t : FVec Ideal S1024x1024 .bf16) (i e : Fin 1024) (he : e.val + 1 < 1024) :
    concatenate S1024x1024 1 [⟨S1024x1023, extractStridedSlice S1024x1023 ![0, 1] t slices_S1024x1024_o0_1_S1024x1023⟩,
      ⟨S1024x1, extractStridedSlice S1024x1 ![0, 0] t slices_S1024x1024_o0_0_S1024x1⟩]
      concatenates_S1024x1023_S1024x1_S1024x1024_d1 (ix2 i e) = t (ix2 i ⟨e.val + 1, he⟩) := by
  refine (concatenate_pair_apply_left (t := S1024x1024) 1 _ _ concatenates_S1024x1023_S1024x1_S1024x1024_d1 (ix2 i e) rfl
    (ix2 i (⟨e.val, by omega⟩ : Fin 1023)) ?_).trans
    (slice2_axis1_apply 1 t slices_S1024x1024_o0_1_S1024x1023 i _ ⟨e.val + 1, he⟩ (Nat.add_comm _ _))
  intro b
  match b with
  | ⟨0, _⟩ => rfl
  | ⟨1, _⟩ => rfl

/-- The last column, then all columns but it: beyond the first column, the previous column. -/
theorem prev_apply (t : FVec Ideal S1024x1024 .bf16) (i e : Fin 1024) (he : 1 ≤ e.val) :
    concatenate S1024x1024 1 [⟨S1024x1, extractStridedSlice S1024x1 ![0, 1023] t slices_S1024x1024_o0_1023_S1024x1⟩,
      ⟨S1024x1023, extractStridedSlice S1024x1023 ![0, 0] t slices_S1024x1024_o0_0_S1024x1023⟩]
      concatenates_S1024x1_S1024x1023_S1024x1024_d1 (ix2 i e) = t (ix2 i ⟨e.val - 1, by omega⟩) := by
  refine (concatenate_pair_apply_right (t := S1024x1024) 1 _ _ concatenates_S1024x1_S1024x1023_S1024x1024_d1 (ix2 i e) rfl rfl
    (ix2 i (⟨e.val - 1, by omega⟩ : Fin 1023)) ?_ ?_).trans
    (slice2_axis1_apply 0 t slices_S1024x1024_o0_0_S1024x1023 i _ ⟨e.val - 1, by omega⟩ (Nat.zero_add _).symm)
  · intro b hb
    match b with
    | ⟨0, _⟩ => rfl
    | ⟨1, _⟩ => exact absurd rfl hb
  · show e.val - 1 + 1 = e.val
    omega

/-- What the kernel does to the projected rows. -/
def rotate (t : FVec Ideal S1024x1024 .bf16) : FVec Ideal S1024x1024 .bf16 := k0_pay16 t cosV sinV

theorem rotate_apply (t : FVec Ideal S1024x1024 .bf16) (i e : Fin 1024) :
    rotate t (ix2 i e) = Attention.rotated (fun e => t (ix2 i e)) i.val e := by
  have h : rotate t (ix2 i e) = t (ix2 i e) * cosV (ix2 i e)
      + Scalar.select (k0_pay12 (ix2 i e)) (Ideal.ofBits .bf16 0x0000#16
          - concatenate S1024x1024 1 [⟨S1024x1023, extractStridedSlice S1024x1023 ![0, 1] t slices_S1024x1024_o0_1_S1024x1023⟩,
              ⟨S1024x1, extractStridedSlice S1024x1 ![0, 0] t slices_S1024x1024_o0_0_S1024x1⟩]
              concatenates_S1024x1023_S1024x1_S1024x1024_d1 (ix2 i e))
          (concatenate S1024x1024 1 [⟨S1024x1, extractStridedSlice S1024x1 ![0, 1023] t slices_S1024x1024_o0_1023_S1024x1⟩,
            ⟨S1024x1023, extractStridedSlice S1024x1023 ![0, 0] t slices_S1024x1024_o0_0_S1024x1023⟩]
            concatenates_S1024x1_S1024x1023_S1024x1024_d1 (ix2 i e)) * sinV (ix2 i e) := rfl
  rw [h, cosV_apply, sinV_apply, mask_apply]
  unfold Attention.rotated
  by_cases hp : e.val % 2 = 0
  · rw [if_pos hp, if_pos hp, select_one, next_apply t i e (by omega), Ideal.ofBits_zero_bf16, zero_sub]
    have hq : Attention.partner e = ⟨e.val + 1, by omega⟩ := Fin.ext (if_pos hp)
    rw [hq]
  · rw [if_neg hp, if_neg hp, select_zero, prev_apply t i e (by omega)]
    have hq : Attention.partner e = ⟨e.val - 1, by omega⟩ := Fin.ext (if_neg hp)
    rw [hq]

/-- The rotated keys. -/
theorem kV_apply (x : FVec Ideal S1x1024x1024 .bf16) (w : FVec Ideal S1024x1024 .bf16) (i e : Fin 1024) :
    kV (F := Ideal) x w (ix2 i e) = Attention.rotated (proj x w i) i.val e := by
  refine (rotate_apply (k0_pay4 x w) i e).trans ?_
  rw [funext (fun e => pay4_apply x w i e)]

/-- The rotated and scaled queries. -/
theorem qV_apply (x : FVec Ideal S1x1024x1024 .bf16) (w : FVec Ideal S1024x1024 .bf16) (i e : Fin 1024) :
    qV (F := Ideal) x w (ix2 i e) = Attention.rotated (proj x w i) i.val e * ((Attention.scale : ℝ) : EReal) := by
  have h : qV (F := Ideal) x w = shapeCast S1024x1024
      (mulf (rotate (k0_pay3 x w)) (broadcast S1024x1024 (Named.named κ "score_scale" 0x3DB5#16)))
      shapeCasts_S1024x1024_S1024x1024 := rfl
  rw [h, shapeCast_self, mulf_apply, broadcast_apply, rotate_apply, IdealRules.named_const.ideal_named_scalar _ _ _ _ rfl,
    funext (fun e => pay3_apply x w i e)]
  rfl

end Cert.KernelIdeal.Run
-- ==== Proof.Blocks.lean ====
/-
# The reference in blocks of eight heads

The reference's 32 heads are four blocks of eight, one block on each device, and its 4096 columns four blocks of 1024.
Read at a head of block `c`, each stage of the reference is the same formula of device `c`'s blocks of the weights; the
last product's sum over 4096 columns is then the sum over the devices of their contributions.
-/
module

public import proofs.«01_k».proof.Proof.RI.Value
public import proofs.«01_k».proof.Proof.KI.RopeValue
public import proofs.«01_k».proof.Proof.Softmax

@[expose] public section

noncomputable section

namespace Cert.Blocks

open Idealize.ShloMosaic Idealize.ShloMosaic.ValueIdx
open Cert.Attention Cert.ReferenceIdeal.Stage
open Cert.KernelIdeal.Run (proj)
open scoped BigOperators

/-! ## Heads and columns of a block -/

/-- Head `n` of device `c`. -/
def headAt (c : Fin 4) (n : Fin 8) : Fin 32 := ⟨8 * c.val + n.val, by omega⟩

/-- Column `e` of device `c`. -/
def colAt (c : Fin 4) (e : Fin 1024) : Fin 4096 := ⟨1024 * c.val + e.val, by omega⟩

theorem wide_headAt (c : Fin 4) (n : Fin 8) (d : Fin 128) : wide (headAt c n) d = colAt c (col n d) :=
  Fin.ext (show 128 * (8 * c.val + n.val) + d.val = 1024 * c.val + (128 * n.val + d.val) by omega)

theorem wideHead_colAt (c : Fin 4) (e : Fin 1024) : wideHead (colAt c e) = headAt c (headOf e) :=
  Fin.ext (show (1024 * c.val + e.val) / 128 = 8 * c.val + e.val / 128 by omega)

theorem wideDim_colAt (c : Fin 4) (e : Fin 1024) : wideDim (colAt c e) = dimOf e :=
  Fin.ext (show (1024 * c.val + e.val) % 128 = e.val % 128 by omega)

theorem col_mod (n : Fin 8) (d : Fin 128) : (col n d).val % 128 = d.val :=
  show (128 * n.val + d.val) % 128 = d.val by omega

theorem col_parity (n : Fin 8) (d : Fin 128) : (col n d).val % 2 = d.val % 2 :=
  show (128 * n.val + d.val) % 2 = d.val % 2 by omega

theorem partner_col (n : Fin 8) (d : Fin 128) : partner (col n d) = col n (mate d) := by
  apply Fin.ext
  show (if (col n d).val % 2 = 0 then (col n d).val + 1 else (col n d).val - 1)
    = 128 * n.val + (if d.val % 2 = 0 then d.val + 1 else d.val - 1)
  rw [col_parity]
  show (if d.val % 2 = 0 then 128 * n.val + d.val + 1 else 128 * n.val + d.val - 1) = _
  split <;> omega

/-- A column of 4096 is a device and a column of 1024. -/
def columns : Fin 4 × Fin 1024 ≃ Fin 4096 where
  toFun p := colAt p.1 p.2
  invFun e := (⟨e.val / 1024, by omega⟩, ⟨e.val % 1024, by omega⟩)
  left_inv p := by
    refine Prod.ext (Fin.ext ?_) (Fin.ext ?_)
    · show (1024 * p.1.val + p.2.val) / 1024 = p.1.val
      omega
    · show (1024 * p.1.val + p.2.val) % 1024 = p.2.val
      omega
  right_inv e := Fin.ext (Nat.div_add_mod e.val 1024)

theorem sum_columns (f : Fin 4096 → EReal) : ∑ e, f e = ∑ c : Fin 4, ∑ e : Fin 1024, f (colAt c e) := by
  rw [← Equiv.sum_comp columns f, Fintype.sum_prod_type]
  rfl

/-! ## The stages at a head of a block -/

variable (x : FVec Ideal ⟨3, ![1, 1024, 1024]⟩ .bf16)
variable (wq wk wv : FVec Ideal ⟨2, ![1024, 4096]⟩ .bf16) (wo : FVec Ideal ⟨2, ![4096, 1024]⟩ .bf16)
variable (bq bk bv bo : Fin 4 → FVec Ideal ⟨2, ![1024, 1024]⟩ .bf16)

theorem project_block (w : FVec Ideal ⟨2, ![1024, 4096]⟩ .bf16) (b : FVec Ideal ⟨2, ![1024, 1024]⟩ .bf16) (c : Fin 4)
    (h : ∀ k e, b (ix2 k e) = w (ix2 k (colAt c e))) (i : Fin 1024) (n : Fin 8) (d : Fin 128) :
    project x w (ix4 (0 : Fin 1) i (headAt c n) d) = proj x b i (col n d) := by
  rw [project_apply, wide_headAt]
  exact Finset.sum_congr rfl fun k _ => by rw [h]

theorem rotate_block (w : FVec Ideal ⟨2, ![1024, 4096]⟩ .bf16) (b : FVec Ideal ⟨2, ![1024, 1024]⟩ .bf16) (c : Fin 4)
    (h : ∀ k e, b (ix2 k e) = w (ix2 k (colAt c e))) (i : Fin 1024) (n : Fin 8) (d : Fin 128) :
    rotate (project x w) (ix4 (0 : Fin 1) i (headAt c n) d) = rotated (proj x b i) i.val (col n d) := by
  rw [rotate_apply, project_block x w b c h, project_block x w b c h]
  unfold rotated
  rw [col_mod, col_parity, partner_col]

theorem proj_real (b : FVec Ideal ⟨2, ![1024, 1024]⟩ .bf16) (rx : ∀ i, IsReal (x i)) (rb : ∀ i, IsReal (b i)) (i e : Fin 1024) :
    IsReal (proj x b i e) :=
  IsReal.sum fun _ => (rx _).mul (rb _)

theorem scores_block (c : Fin 4) (hq : ∀ k e, bq c (ix2 k e) = wq (ix2 k (colAt c e)))
    (hk : ∀ k e, bk c (ix2 k e) = wk (ix2 k (colAt c e))) (n : Fin 8) (i j : Fin 1024) :
    scores (rotate (project x wq)) (rotate (project x wk)) (ix4 (0 : Fin 1) (headAt c n) i j)
      = scaledScore (rotated (proj x (bq c) i) i.val) (fun j => rotated (proj x (bk c) j) j.val) n j := by
  rw [scores_apply]
  unfold scaledScore
  refine congrArg (fun a : EReal => a * ((scale : ℝ) : EReal)) (Finset.sum_congr rfl fun d _ => ?_)
  rw [rotate_block x wq (bq c) c hq, rotate_block x wk (bk c) c hk]

theorem context_block (c : Fin 4) (hq : ∀ k e, bq c (ix2 k e) = wq (ix2 k (colAt c e)))
    (hk : ∀ k e, bk c (ix2 k e) = wk (ix2 k (colAt c e))) (hv : ∀ k e, bv c (ix2 k e) = wv (ix2 k (colAt c e)))
    (rx : ∀ i, IsReal (x i)) (rq : ∀ i, IsReal (bq c i)) (rk : ∀ i, IsReal (bk c i)) (i e : Fin 1024) :
    context (project x wv) (soft (scores (rotate (project x wq)) (rotate (project x wk)))) (ix3 (0 : Fin 1) i (colAt c e))
      = mean (fun e => rotated (proj x (bq c) i) i.val e * ((scale : ℝ) : EReal))
          (fun j e => rotated (proj x (bk c) j) j.val e) (fun j e => proj x (bv c) j e) (headOf e) (dimOf e) := by
  have hs := scores_block x wq wk bq bk c hq hk (headOf e) i
  rw [mean_eq (rotated (proj x (bq c) i) i.val) (fun j => rotated (proj x (bk c) j) j.val) _ _ _
    (fun e => rotated_real (proj_real x (bq c) rx rq i) _ _)
    (fun j e => rotated_real (proj_real x (bk c) rx rk j) _ _), context_apply, wideHead_colAt, wideDim_colAt]
  refine Finset.sum_congr rfl fun j _ => ?_
  rw [project_block x wv (bv c) c hv, soft_apply]
  simp only [expo_apply, hs]

/-! ## The result -/

/-- The reference's result is the sum of the devices' contributions. -/
theorem result_block (hq : ∀ c k e, bq c (ix2 k e) = wq (ix2 k (colAt c e)))
    (hk : ∀ c k e, bk c (ix2 k e) = wk (ix2 k (colAt c e))) (hv : ∀ c k e, bv c (ix2 k e) = wv (ix2 k (colAt c e)))
    (ho : ∀ c e n, bo c (ix2 e n) = wo (ix2 (colAt c e) n))
    (rx : ∀ i, IsReal (x i)) (rq : ∀ c i, IsReal (bq c i)) (rk : ∀ c i, IsReal (bk c i)) (i n : Fin 1024) :
    result x wq wk wv wo (ix3 (0 : Fin 1) i n)
      = ∑ c : Fin 4, contribution (fun e => rotated (proj x (bq c) i) i.val e * ((scale : ℝ) : EReal))
          (fun j e => rotated (proj x (bk c) j) j.val e) (fun j e => proj x (bv c) j e) (fun e n => bo c (ix2 e n)) n := by
  rw [result_apply, sum_columns]
  refine Finset.sum_congr rfl fun c _ => Finset.sum_congr rfl fun e _ => ?_
  rw [context_block x wq wk wv bq bk bv c (hq c) (hk c) (hv c) rx (rq c) (rk c), ← ho]

end Cert.Blocks
-- ==== Proof.Algebraic.lean ====
/-
# The kernel's result is the reference's

Each device holds the activations and its blocks of the weights. On finite activations and query and key weights, what
every device's result holds after the exchange is what the reference computes from the whole arrays.
-/
module

public import proofs.«01_k».proof.Defs
public import proofs.«01_k».proof.Proof.KI.Launch
public import proofs.«01_k».proof.Proof.KI.ChainValue
public import proofs.«01_k».proof.Proof.Blocks
public import proofs.«01_k».proof.Proof.Finite
public import proofs.«01_k».proof.Proof.Frames

@[expose] public section

noncomputable section

open Idealize.ShloMosaic Idealize.ShloMosaic.TcCoe Idealize.SL.Sem Idealize.ShloMosaic.ValueIdx

namespace Cert.Proof

open Cert.KernelIdeal.Run (a0 a1 a2 a3 a4)
open scoped BigOperators

/-! ## The blocks by coordinates -/

/-- A device's block of columns. -/
theorem block_cols (w : FVec Ideal ⟨2, ![1024, 4096]⟩ .bf16) (c : Fin 4) (k e : Fin 1024) :
    (Layout.block ⟨2, ![1024, 1024]⟩ ⟨2, ![1024, 4096]⟩ 1 4 c w) (ix2 k e) = w (ix2 k (Blocks.colAt c e)) := by
  rw [Layout.block_apply]
  refine congrArg w (funext fun a => Fin.ext ?_)
  match a with
  | ⟨0, _⟩ => rfl
  | ⟨1, _⟩ => exact congrArg (· + e.val) (Nat.mul_comm c.val 1024)

/-- A device's block of rows. -/
theorem block_rows (w : FVec Ideal ⟨2, ![4096, 1024]⟩ .bf16) (c : Fin 4) (e n : Fin 1024) :
    (Layout.block ⟨2, ![1024, 1024]⟩ ⟨2, ![4096, 1024]⟩ 0 4 c w) (ix2 e n) = w (ix2 (Blocks.colAt c e) n) := by
  rw [Layout.block_apply]
  refine congrArg w (funext fun a => Fin.ext ?_)
  match a with
  | ⟨0, _⟩ => exact congrArg (· + e.val) (Nat.mul_comm c.val 1024)
  | ⟨1, _⟩ => rfl

/-! ## The result -/

/-- What the devices hold, as sums, is the reference's result of the whole arrays. -/
theorem out_eq_result (m : (ℓ : Loc Cert.KernelIdeal.nD Cert.KernelIdeal.τ Cert.KernelIdeal.sig) → Buf (Elt Ideal) ℓ)
    (x : FVec Ideal ⟨3, ![1, 1024, 1024]⟩ .bf16) (wq wk wv : FVec Ideal ⟨2, ![1024, 4096]⟩ .bf16)
    (wo : FVec Ideal ⟨2, ![4096, 1024]⟩ .bf16)
    (h0 : ∀ c, a0 m c = x) (h1 : ∀ c, a1 m c = Layout.block ⟨2, ![1024, 1024]⟩ ⟨2, ![1024, 4096]⟩ 1 4 c wq)
    (h2 : ∀ c, a2 m c = Layout.block ⟨2, ![1024, 1024]⟩ ⟨2, ![1024, 4096]⟩ 1 4 c wk)
    (h3 : ∀ c, a3 m c = Layout.block ⟨2, ![1024, 1024]⟩ ⟨2, ![1024, 4096]⟩ 1 4 c wv)
    (h4 : ∀ c, a4 m c = Layout.block ⟨2, ![1024, 1024]⟩ ⟨2, ![4096, 1024]⟩ 0 4 c wo)
    (rx : ∀ i, Attention.IsReal (x i)) (rq : ∀ c i, Attention.IsReal (a1 m c i)) (rk : ∀ c i, Attention.IsReal (a2 m c i)) :
    Cert.KernelIdeal.Run.OUT m = Cert.ReferenceIdeal.Stage.result x wq wk wv wo := by
  funext j
  obtain ⟨z, i, n, rfl⟩ : ∃ (z : Fin 1) (i n : Fin 1024), j = ix3 z i n := ⟨_, _, _, eq_ix3 j⟩
  obtain rfl : z = 0 := Subsingleton.elim _ _
  have hO := Cert.KernelIdeal.Run.OUT_apply m i n
  suffices h : (∑ c : Fin 4, Cert.KernelIdeal.Run.contrib m c i n : EReal)
      = Cert.ReferenceIdeal.Stage.result x wq wk wv wo (ix3 (0 : Fin 1) i n) from hO.trans h
  refine Eq.trans ?_ (Blocks.result_block x wq wk wv wo (a1 m) (a2 m) (a3 m) (a4 m)
    (fun c k e => (congrFun (h1 c) _).trans (block_cols wq c k e))
    (fun c k e => (congrFun (h2 c) _).trans (block_cols wk c k e))
    (fun c k e => (congrFun (h3 c) _).trans (block_cols wv c k e))
    (fun c e n => (congrFun (h4 c) _).trans (block_rows wo c e n)) rx rq rk i n).symm
  refine Finset.sum_congr rfl fun c _ => ?_
  have eq : (fun e => Cert.KernelIdeal.Run.Qv m c (ix2 i e))
      = fun e => Attention.rotated (Cert.KernelIdeal.Run.proj x (a1 m c) i) i.val e * ((Attention.scale : ℝ) : EReal) :=
    funext fun e => by
      rw [← h0 c]
      exact Cert.KernelIdeal.Run.qV_apply (a0 m c) (a1 m c) i e
  have ek : (fun j e => Cert.KernelIdeal.Run.Kv m c (ix2 j e))
      = fun j e => Attention.rotated (Cert.KernelIdeal.Run.proj x (a2 m c) j) j.val e :=
    funext fun j => funext fun e => by
      rw [← h0 c]
      exact Cert.KernelIdeal.Run.kV_apply (a0 m c) (a2 m c) j e
  have ev : (fun j e => Cert.KernelIdeal.Run.Vv m c (ix2 j e)) = fun j e => Cert.KernelIdeal.Run.proj x (a3 m c) j e :=
    funext fun j => funext fun e => by
      rw [← h0 c]
      exact Cert.KernelIdeal.Run.vV_apply (a0 m c) (a3 m c) j e
  have eo : (fun e n => Cert.KernelIdeal.Run.Ov m c (ix2 e n)) = fun e n => a4 m c (ix2 e n) :=
    funext fun e => funext fun n => congrFun (Cert.KernelIdeal.Run.oV_eq (a4 m c)) (ix2 e n)
  unfold Cert.KernelIdeal.Run.contrib
  exact (congrArg (fun q => Attention.contribution q _ _ _ n) eq).trans
    ((congrArg (fun k => Attention.contribution _ k _ _ n) ek).trans
      ((congrArg (fun v => Attention.contribution _ _ v _ n) ev).trans (congrArg (fun o => Attention.contribution _ _ _ o n) eo)))

/-! ## The claims that take the precondition -/

theorem frame_ideal_finite :
    Cert.quiescent_KernelIdeal_pre_finite_KernelIdeal (hPre_finite_KernelIdeal := facts_blocks) :=
  fun m g _ => frame_ideal m g trivial

theorem frame_reference_finite :
    Cert.quiescent_ReferenceIdeal_pre_finite_ReferenceIdeal (hPre_finite_ReferenceIdeal := facts_whole) :=
  fun m g _ => frame_reference m g trivial

theorem algebraic :
    Cert.algebraic_KernelIdeal_ReferenceIdeal_pre_finite_KernelIdeal (hPre_finite_KernelIdeal := facts_blocks) := by
  intro m g m' g' hp hm
  have hr := fun c => @real_of_finite facts_blocks _ _ _ _ _ (hp c)
  have hout := out_eq_result m _ _ _ _ _ (fun c => (hm c).1) (fun c => (hm c).2.1) (fun c => (hm c).2.2.1)
    (fun c => (hm c).2.2.2.1) (fun c => (hm c).2.2.2.2)
    (fun i => by rw [← (hm 0).1]; exact (hr 0).1 i) (fun c => (hr c).2.1) (fun c => (hr c).2.2)
  refine ⟨Cert.ReferenceIdeal.Value.res_out0 m' 0, ?_, ?_⟩
  · refine (θ_run Cert.KernelIdeal.defs _ _).mono (fun r h c => ⟨?_, (h.1 c).2⟩)
      (Cert.KernelIdeal.Run.run_main (F := Ideal) m g)
    exact ((h.1 c).1.trans hout).trans (Cert.ReferenceIdeal.Stage.out_eq m' 0).symm
  · exact (θ_run Cert.ReferenceIdeal.defs _ _).mono (fun r h => h 0) (Cert.ReferenceIdeal.Value.run (F := Ideal) m' g')

end Cert.Proof
-- ==== Proof.lean ====
/-
The proof of the certificate's claim, put together from the modules under `Proof/`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Finite
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  facts_blocks, facts_whole, frame_kernel, frame_ideal, frame_ideal_finite, frame_reference, frame_reference_finite, preserves,
  algebraic⟩

end Cert.Proof

end
